-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_idx_nonneg [hPre_idx_nonneg : Cert.Pre_idx_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_idx_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_nonneg [hPre_idx_nonneg : Cert.Pre_idx_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_idx_nonneg [hKernelIdeal : Cert.KernelIdeal.Facts] [hPre_idx_nonneg : Cert.Pre_idx_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_idx_nonneg [hReferenceIdeal : Cert.ReferenceIdeal.Facts] [hPre_idx_nonneg : Cert.Pre_idx_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_idx_nonneg [hKernelIdeal : Cert.KernelIdeal.Facts] [hReferenceIdeal : Cert.ReferenceIdeal.Facts] [hPre_idx_nonneg : Cert.Pre_idx_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_idx_nonneg : Cert.Pre_idx_nonneg.Facts),
    quiescent_Kernel (hKernel := hKernel)
    ∧ quiescent_KernelIdeal (hKernelIdeal := hKernelIdeal)
    ∧ quiescent_KernelIdeal_pre_idx_nonneg (hKernelIdeal := hKernelIdeal) (hPre_idx_nonneg := hPre_idx_nonneg)
    ∧ quiescent_ReferenceIdeal (hReferenceIdeal := hReferenceIdeal)
    ∧ quiescent_ReferenceIdeal_pre_idx_nonneg (hReferenceIdeal := hReferenceIdeal) (hPre_idx_nonneg := hPre_idx_nonneg)
    ∧ preserves_Kernel_KernelIdeal
    ∧ algebraic_KernelIdeal_ReferenceIdeal_pre_idx_nonneg (hKernelIdeal := hKernelIdeal) (hReferenceIdeal := hReferenceIdeal) (hPre_idx_nonneg := hPre_idx_nonneg)
-- ==== Pre_idx_nonneg.lean ====
abbrev S1024x26x1000 : Shape := ⟨3, ![1024, 26, 1000]⟩
abbrev S1024x26 : Shape := ⟨2, ![1024, 26]⟩
abbrev S1024x4 : Shape := ⟨2, ![1024, 4]⟩
abbrev S_ : Shape := ⟨0, ![]⟩

class Facts : Prop where
  bcast_S_S1024x4 : S_.BroadcastsInDim S1024x4 (![] : Fin 0 → Fin S1024x4.rank)
  reducesTo_S1024x4_S_d0_1 : S1024x4.ReducesTo [0, 1] S_
  h_S_ : 0 < S_.numel

variable [Facts]

def fn {F : FTy → Type} [FloatOps F] (main_arg0 : FVec F S1024x26x1000 .f32) (main_arg1 : FVec F S1024x26x1000 .f32) (main_arg2 : IVec S1024x26 32) (main_arg3 : IVec S1024x26 1) (main_arg4 : IVec S1024x4 32) : IVec S_ 1 :=
  let main_c : IVec S_ 32 := constantI S_ 32 0#32
  let main_v0 : IVec S1024x4 32 := broadcastInDim S1024x4 ![] bcast_S_S1024x4 main_c
  let main_v1 : IVec S1024x4 1 := cmpi .sge main_arg4 main_v0
  let main_c_0 : IVec S_ 1 := constantI S_ 1 1#1
  let main_v2 : IVec S_ 1 := (fun x v => Host.reduce IntOp.andi x v reducesTo_S1024x4_S_d0_1 h_S_) main_v1 main_c_0
  main_v2
-- ==== Kernel.lean ====
abbrev S1024x26x1000 : Shape := ⟨3, ![1024, 26, 1000]⟩
abbrev S1024x26 : Shape := ⟨2, ![1024, 26]⟩
abbrev S1024x4 : Shape := ⟨2, ![1024, 4]⟩
abbrev S26x1000x1024 : Shape := ⟨3, ![26, 1000, 1024]⟩
abbrev S26x1024 : Shape := ⟨2, ![26, 1024]⟩
abbrev S4x1024 : Shape := ⟨2, ![4, 1024]⟩
abbrev S1x1000x1024 : Shape := ⟨3, ![1, 1000, 1024]⟩
abbrev S1000x1024 : Shape := ⟨2, ![1000, 1024]⟩
abbrev S1024 : Shape := ⟨1, ![1024]⟩
abbrev S1x1024 : Shape := ⟨2, ![1, 1024]⟩
abbrev S_ : Shape := ⟨0, ![]⟩

abbrev nBuf : Space → Nat
  | .hbm => 21
  | .vmem => 10
  | .smem => 0
  | _ => 0

abbrev bufTy : (tb : Table) → Fin (tcTables nBuf tb) → BufTy
  | .hbm, ⟨0, _⟩ => ⟨S1024x26x1000, .f32⟩
  | .hbm, ⟨1, _⟩ => ⟨S1024x26x1000, .f32⟩
  | .hbm, ⟨2, _⟩ => ⟨S1024x26, .i32⟩
  | .hbm, ⟨3, _⟩ => ⟨S1024x26, .i1⟩
  | .hbm, ⟨4, _⟩ => ⟨S1024x4, .i32⟩
  | .hbm, ⟨5, _⟩ => ⟨S26x1000x1024, .f32⟩
  | .hbm, ⟨6, _⟩ => ⟨S26x1000x1024, .f32⟩
  | .hbm, ⟨7, _⟩ => ⟨S26x1024, .i32⟩
  | .hbm, ⟨8, _⟩ => ⟨S26x1024, .i1⟩
  | .hbm, ⟨9, _⟩ => ⟨S4x1024, .i32⟩
  | .hbm, ⟨10, _⟩ => ⟨S26x1024, .i32⟩
  | .hbm, ⟨11, _⟩ => ⟨S26x1024, .i32⟩
  | .hbm, ⟨12, _⟩ => ⟨S26x1024, .i32⟩
  | .hbm, ⟨13, _⟩ => ⟨S26x1024, .f32⟩
  | .hbm, ⟨14, _⟩ => ⟨S_, .i32⟩
  | .hbm, ⟨15, _⟩ => ⟨S26x1024, .i32⟩
  | .hbm, ⟨16, _⟩ => ⟨S26x1024, .i1⟩
  | .hbm, ⟨17, _⟩ => ⟨S26x1024, .i1⟩
  | .hbm, ⟨18, _⟩ => ⟨S1024x26, .i32⟩
  | .hbm, ⟨19, _⟩ => ⟨S1024x26, .i1⟩
  | .hbm, ⟨20, _⟩ => ⟨S1024x26, .f32⟩
  | .local _ .vmem, ⟨0, _⟩ => ⟨S1x1000x1024, .f32⟩
  | .local _ .vmem, ⟨1, _⟩ => ⟨S1x1000x1024, .f32⟩
  | .local _ .vmem, ⟨2, _⟩ => ⟨S1x1000x1024, .f32⟩
  | .local _ .vmem, ⟨3, _⟩ => ⟨S1x1000x1024, .f32⟩
  | .local _ .vmem, ⟨4, _⟩ => ⟨S26x1024, .i32⟩
  | .local _ .vmem, ⟨5, _⟩ => ⟨S26x1024, .i32⟩
  | .local _ .vmem, ⟨6, _⟩ => ⟨S4x1024, .i32⟩
  | .local _ .vmem, ⟨7, _⟩ => ⟨S26x1024, .i32⟩
  | .local _ .vmem, ⟨8, _⟩ => ⟨S26x1024, .i32⟩
  | .local _ .vmem, ⟨9, _⟩ => ⟨S26x1024, .f32⟩
  | _, _ => ⟨S1024x26x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![26], ![false]⟩

def k0_off1 (i : grid0.Coords) : Fin 2 → Nat :=
  let arg0 : BitVec 32 := BitVec.ofNat 32 (i 0).val
  let v13 : Index := Scalar.indexCast arg0
  let c0_6 : Index := 0#32
  ![v13.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S26x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S26x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S26x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S26x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S26x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1024x26x1000 : Shape := ⟨3, ![1024, 26, 1000]⟩
abbrev S1024x26 : Shape := ⟨2, ![1024, 26]⟩
abbrev S1024x4 : Shape := ⟨2, ![1024, 4]⟩
abbrev S_ : Shape := ⟨0, ![]⟩
abbrev S1024 : Shape := ⟨1, ![1024]⟩
abbrev S1024x1 : Shape := ⟨2, ![1024, 1]⟩
abbrev S1024x4x1 : Shape := ⟨3, ![1024, 4, 1]⟩
abbrev S1024x4x2 : Shape := ⟨3, ![1024, 4, 2]⟩

abbrev nBuf : Space → Nat
  | .hbm => 44
  | .vmem => 0
  | .smem => 0
  | _ => 0

abbrev bufTy : (tb : Table) → Fin (tcTables nBuf tb) → BufTy
  | .hbm, ⟨0, _⟩ => ⟨S1024x26x1000, .f32⟩
  | .hbm, ⟨1, _⟩ => ⟨S1024x26x1000, .f32⟩
  | .hbm, ⟨2, _⟩ => ⟨S1024x26, .i32⟩
  | .hbm, ⟨3, _⟩ => ⟨S1024x26, .i1⟩
  | .hbm, ⟨4, _⟩ => ⟨S1024x4, .i32⟩
  | .hbm, ⟨5, _⟩ => ⟨S_, .f32⟩
  | .hbm, ⟨6, _⟩ => ⟨S_, .f32⟩
  | .hbm, ⟨7, _⟩ => ⟨S1024x26, .f32⟩
  | .hbm, ⟨8, _⟩ => ⟨S1024x26, .f32⟩
  | .hbm, ⟨9, _⟩ => ⟨S1024x26, .f32⟩
  | .hbm, ⟨10, _⟩ => ⟨S_, .f32⟩
  | .hbm, ⟨11, _⟩ => ⟨S1024x26x1000, .f32⟩
  | .hbm, ⟨12, _⟩ => ⟨S1024x26x1000, .f32⟩
  | .hbm, ⟨13, _⟩ => ⟨S1024x26x1000, .f32⟩
  | .hbm, ⟨14, _⟩ => ⟨S1024x26x1000, .i32⟩
  | .hbm, ⟨15, _⟩ => ⟨S_, .f32⟩
  | .hbm, ⟨16, _⟩ => ⟨S_, .i32⟩
  | .hbm, ⟨17, _⟩ => ⟨S1024x26, .f32⟩
  | .hbm, ⟨18, _⟩ => ⟨S1024x26, .i32⟩
  | .hbm, ⟨19, _⟩ => ⟨S1024, .i32⟩
  | .hbm, ⟨20, _⟩ => ⟨S1024x1, .i32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S_, .i32⟩
  | .hbm, ⟨25, _⟩ => ⟨S1024x1, .i32⟩
  | .hbm, ⟨26, _⟩ => ⟨S1024x1, .i32⟩
  | .hbm, ⟨27, _⟩ => ⟨S1024x1, .i32⟩
  | .hbm, ⟨28, _⟩ => ⟨S_, .i32⟩
  | .hbm, ⟨29, _⟩ => ⟨S1024x4, .i32⟩
  | .hbm, ⟨30, _⟩ => ⟨S1024x4, .i1⟩
  | .hbm, ⟨31, _⟩ => ⟨S_, .i32⟩
  | .hbm, ⟨32, _⟩ => ⟨S1024x4, .i32⟩
  | .hbm, ⟨33, _⟩ => ⟨S1024x4, .i32⟩
  | .hbm, ⟨34, _⟩ => ⟨S1024x4, .i32⟩
  | .hbm, ⟨35, _⟩ => ⟨S1024x4, .i32⟩
  | .hbm, ⟨36, _⟩ => ⟨S1024x4x1, .i32⟩
  | .hbm, ⟨37, _⟩ => ⟨S1024x4x1, .i32⟩
  | .hbm, ⟨38, _⟩ => ⟨S1024x4x2, .i32⟩
  | .hbm, ⟨39, _⟩ => ⟨S_, .i1⟩
  | .hbm, ⟨40, _⟩ => ⟨S1024x4, .i1⟩
  | .hbm, ⟨41, _⟩ => ⟨S1024x26, .i1⟩
  | .hbm, ⟨42, _⟩ => ⟨S1024x26, .i1⟩
  | .hbm, ⟨43, _⟩ => ⟨S1024x26, .i32⟩
  | _, _ => ⟨S1024x26x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call1_v0 : Ref sig .tc := ⟨.hbm, 14, rfl⟩
abbrev main_call1_cst : Ref sig .tc := ⟨.hbm, 15, rfl⟩
abbrev main_call1_c : Ref sig .tc := ⟨.hbm, 16, rfl⟩
abbrev main_call1_v1_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Proof.LaunchTail.lean ====
/-
  The launch of a kernel whose outputs are held to a predicate, followed by host lines that read them. The arrays end at some contents
  that they may hold, and every buffer that bypasses the region ends at the lines' fold over the region's exit with the arrays at those
  very contents; every semaphore counter reads zero.
-/
module

public import Idealize.ShloMosaic.Lib.Pipeline.FrameSuffix

@[expose] public section

noncomputable section

namespace Cert.Tail

open Idealize.ShloMosaic Idealize.ShloMosaic.TcCoe Idealize.ShloMosaic.Pipeline Idealize.ShloMosaic.Rounds
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀) (p : P) (kit : LaunchFacts (nD := nD) (τ := τ) cfgs p) (defs₀ : Defs nD τ sig Val Λ₀) (𝒱₀ : Variants)
  (rdat : (c : Dev nD) → RDat τ Val Unit ℕ (UR sig nD τ) ℕ (cfgs p) c)

/-- What the lines `opss` leave in a buffer of core `c`, from the region's exit with the arrays at `A`. -/
def leftBy (V₀ : Dev nD → Valuation τ sig Val) (opss : List (List (HloOp τ sig Val))) (c : Dev nD)
    (A : (w : Fin (cfgs p).W) → Buf Val (((cfgs p).spec w).arr.view.loc (c.tc : Thread nD τ))) (b : Ref sig .tc) :
    Buf Val ((c.tc : Thread nD τ).loc b) :=
  StableHlo.after opss.flatten (withArrays (cfgs p).spec c (V₀ c) A) (Proc.devRef .tc b)

/-- The arrays' points-to at the region's exit, with the contents named. -/
theorem arraysAt_elim (c : Dev nD) (n : ℕ) : ((rdat c).arraysAt n : sProp 𝕄)
    ⊢ iprop(∃ A, ⌜∀ w, (rdat c).ArrAt w n (A w)⌝ ∗ (rdat c).arrays A) := by
  unfold RDat.arraysAt
  iintro H
  ihave H1 := (BI.bigSep_exists_pi Finset.univ (fun w F => iprop(⌜(rdat c).ArrAt w n F⌝
    ∗ ((cfgs p).win w).arr.view.loc (c.tc : Thread nD τ) ↦[((cfgs p).win w).arr.view.set]{(rdat c).share w} F))) $$ H
  icases H1 with ⟨%A, H1⟩
  ihave H2 := (BI.bigSep_pure_sep Finset.univ (fun w => (rdat c).ArrAt w n (A w))
    (fun w => ((cfgs p).win w).arr.view.loc (c.tc : Thread nD τ) ↦[((cfgs p).win w).arr.view.set]{(rdat c).share w} A w)) $$ H1
  icases H2 with ⟨%hA, H2⟩
  iexists A
  isplitr
  · ipureintro; exact fun w => hA w (Finset.mem_univ w)
  unfold RDat.arrays
  iexact H2

/-- And with the contents forgotten again. -/
theorem arraysAt_intro (c : Dev nD) (n : ℕ) (A : (w : Fin (cfgs p).W) → Buf Val (((cfgs p).spec w).arr.view.loc (c.tc : Thread nD τ)))
    (hA : ∀ w, (rdat c).ArrAt w n (A w)) : ((rdat c).arrays A : sProp 𝕄) ⊢ (rdat c).arraysAt n := by
  unfold RDat.arraysAt RDat.arrays
  refine BI.bigSep_mono fun w _ => ?_
  show (((cfgs p).win w).arr.view.loc (c.tc : Thread nD τ) ↦[((cfgs p).win w).arr.view.set]{(rdat c).share w} A w : sProp 𝕄)
    ⊢ iprop(∃ F, ⌜(rdat c).ArrAt w n F⌝ ∗ ((cfgs p).win w).arr.view.loc (c.tc : Thread nD τ) ↦[((cfgs p).win w).arr.view.set]{(rdat c).share w} F)
  iintro H
  iexists (A w)
  isplitr
  · ipureintro; exact hA w
  iexact H

local notation "𝔻" => Pipeline.defs (fun q => Cfg.toPCfg (Val := Val) (cfgs q)) defs₀

set_option maxHeartbeats 800000 in
include kit in
/-- The run of a region followed by host lines, the arrays held to what they may hold and the lines' results named from them. -/
theorem run_region_lines
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hΦ : ∀ c t, (rdat c).Φ t = ΦA (cfgs p).spec c) :
    θ_run 𝔻 (onTc main) (s₀ m g) fun r =>
      (∀ c, ∃ A, (∀ w, (rdat c).ArrAt w (cfgs p).N (A w))
        ∧ ∀ b ∈ restRefs sig (cfgs p).spec, r.2.mem ((c.tc : Thread nD τ).loc b) = leftBy cfgs p V₀ opss c A b)
      ∧ r.2.sem = fun _ => 0 := by
  classical
  have k₁ := kit.toP (Val := Val)
  have k₀ := k₁.to₀
  let pcs : P → PCfg sig Λ₀ Val := fun q => (cfgs q).toPCfg
  let a : (q : P) → (pcs q).Adm := fun q => (cfgs q).toPCfg_adm
  let V : (c : Dev nD) → (b : Ref sig .tc) → Buf Val ((c.tc : Thread nD τ).loc b) := fun c b => V₀ c (Proc.devRef .tc b)
  have hq : ∀ c w, ((cfgs p).spec w).isOut = false → (rdat c).q w = shareOf (cfgs p).spec w := fun c w hw =>
    (rdat c).q_eq_shareOf_of_share_full k₁.win.arr_inj (hshare c) w hw
  exact RDat.θ_run_region_pf_tail_quiescent pcs a (RDat.familyOf pcs a p rdat) () (k₀.cellOf_inj a) p k₀.win
    (OwnSemFacts.none (cfgs p).spec) k₀.pre emb₁ defs₀ 𝒱₀ m g main (fun _ => chain (opss.map StableHlo.seq))
    (fun c => by rw [RDat.familyOf_self]; exact hbody c) k₀.block_pos k₀.arr_whole k₀.stage_whole
    (fun c t => by rw [RDat.familyOf_self]; exact howed c t)
    (G := fun _ => iprop(emp)) (u₀ := initOf (cells (pin pcs a) (k₀.cellOf_inj a)) (launchToks (pin pcs a) (k₀.cellOf_inj a)))
    (hu₀ := by
      iintro Hu; imodintro
      isplitl [Hu]; · iapply (show (ownU _ : sProp 𝕄) ⊢ BI.own (emb₁ (initOf (cells (pin pcs a) (k₀.cellOf_inj a)) (launchToks (pin pcs a) (k₀.cellOf_inj a)))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by rw [RDat.familyOf_self]; exact (rdat c).arrays_split_shared k₀.sharedIn k₀.arr_whole (hq c) (V c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (V c))
    (Z' := fun c => iprop(∃ A, ⌜∀ w, (rdat c).ArrAt w (cfgs p).N (A w)⌝
      ∗ unscopedRestP (Ix := Unit) (Name := ℕ) (U := UR sig nD τ) (Lvl := ℕ) Prefetch.none (cfgs p).spec c (leftBy cfgs p V₀ opss c A)))
    (hX := fun c => by
      iintro ⟨HU, -, -, Hp, -⟩; imodintro
      isplitl [Hp]; · iexists _; iexact Hp
      iexact HU)
    (hin := fun c => by
      rw [RDat.familyOf_self, hΦ]
      unfold ΦA
      iintro ⟨Hp, -, Hr⟩
      isplitl [Hr] <;> iassumption)
    (hout := fun c => by
      rw [RDat.familyOf_self, hΦ, ownSems0_none]
      unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (arraysAt_elim cfgs p rdat c (cfgs p).N) $$ Ha
      icases Ha' with ⟨%A, %hA', Ha⟩
      have hB : (rdat c).arrays A = arrBufs (cfgs p).spec c (fun b => withArrays (cfgs p).spec c (V₀ c) A (Proc.devRef .tc b)) :=
        ((rdat c).arrBufs_eq_arrays k₀.sharedIn k₀.arr_whole (hq c) _ A fun w =>
          (withArrays_arr (cfgs p).spec k₁.win.arr_inj c (V₀ c) A w).symm).symm
      iapply (tail_seqs_bufs_b pcs defs₀ 𝒱₀ Prefetch.none (cfgs p).spec c (V₀ c) A opss hsub hfresh hkeep Q')
      isplitl [Hk]
      · iintro ⟨Hb2, Ha2, Hu⟩
        iapply Hk
        isplitl [Hb2]; · iexact Hb2
        isplitl [Ha2]; · iapply (arraysAt_intro cfgs p rdat c (cfgs p).N A hA'); iapply (Entails.of_eq hB.symm); iexact Ha2
        iexists A
        isplitr
        · ipureintro; exact hA'
        · iexact Hu
      · isplitl [Hb]; · iexact Hb
        isplitl [Ha]; · iapply (Entails.of_eq hB); iexact Ha
        iexact HZ)
    (QY := fun c s => ∃ A, (∀ w, (rdat c).ArrAt w (cfgs p).N (A w))
      ∧ ∀ b ∈ restRefsP sig Prefetch.none (cfgs p).spec, s.mem ((c.tc : Thread nD τ).loc b) = leftBy cfgs p V₀ opss c A b)
    (hY := fun c s' => by
      iintro ⟨-, HZ, HSI⟩
      icases HZ with ⟨%A, %hA', HZ⟩
      unfold unscopedRestP
      ihave HZ' := (pointsTo_read_all (restRefsP sig Prefetch.none (cfgs p).spec) (fun b => (c.tc : Thread nD τ).loc b)
        (leftBy cfgs p V₀ opss c A) s') $$ [HZ HSI]
      · isplitl [HZ] <;> iassumption
      icases HZ' with ⟨%hZ, HSI⟩
      imodintro
      isplitr
      · ipureintro; exact ⟨A, hA', hZ⟩
      · iexact HSI)
    (hQ := fun s h hz => ⟨fun c => by
      obtain ⟨A, h1, h2⟩ := (h c).2.2
      exact ⟨A, h1, fun b hb => h2 b (Finset.mem_sdiff.mpr ⟨hb, fun h => (Finset.mem_image.mp h).elim fun k _ => k.elim0⟩)⟩, hz⟩)

end Cert.Tail

end
-- ==== Proof.KernelFrame.lean ====
/-
  The frame of the kernel's program before it is idealized.
-/
module

public import proofs.«01_k».proof.Proof.KernelRun

@[expose] public section

set_option maxRecDepth 16384

noncomputable section

namespace Cert.KernelRun

open Idealize.ShloMosaic Idealize.ShloMosaic.TcCoe Idealize.ShloMosaic.StableHlo
open Idealize.SL Idealize.SL.Sem
open Idealize.ShloMosaic.Rounds
open Cert.Kernel Cert.Kernel.Gen Cert.KernelBody

variable {F : FTy → Type} [FloatOps F]
variable (m : (ℓ : Loc nD τ sig) → Buf (Elt F) ℓ) (ρ : Dev nD → PrngReg)

section Left

variable (c : Dev nD) (A : (w : Fin cfg0.W) → Buf (Elt F) ((spec0 w).arr.view.loc (c.tc : Thread nD τ)))

theorem left_arg0 : left m c A main_arg0 = m ((c.tc : Thread nD τ).loc main_arg0) := by
  unfold left Cert.Tail.leftBy
  refine (?_ : _ = Pipeline.withArrays spec0 c (V0 m c) A (Proc.devRef .tc main_arg0)).trans ?_
  · simp only [List.flatten_cons, List.flatten_nil, List.append_nil]
    after_results_simp
  · exact (Pipeline.withArrays_of_ne spec0 c (V0 m c) A main_arg0 (by exact (by decide : ∀ w, Pipeline.arrRef spec0 w ≠ main_arg0))).trans (V_main_arg0 m c)

theorem left_arg1 : left m c A main_arg1 = m ((c.tc : Thread nD τ).loc main_arg1) := by
  unfold left Cert.Tail.leftBy
  refine (?_ : _ = Pipeline.withArrays spec0 c (V0 m c) A (Proc.devRef .tc main_arg1)).trans ?_
  · simp only [List.flatten_cons, List.flatten_nil, List.append_nil]
    after_results_simp
  · exact (Pipeline.withArrays_of_ne spec0 c (V0 m c) A main_arg1 (by exact (by decide : ∀ w, Pipeline.arrRef spec0 w ≠ main_arg1))).trans (V_main_arg1 m c)

theorem left_arg2 : left m c A main_arg2 = m ((c.tc : Thread nD τ).loc main_arg2) := by
  unfold left Cert.Tail.leftBy
  refine (?_ : _ = Pipeline.withArrays spec0 c (V0 m c) A (Proc.devRef .tc main_arg2)).trans ?_
  · simp only [List.flatten_cons, List.flatten_nil, List.append_nil]
    after_results_simp
  · exact (Pipeline.withArrays_of_ne spec0 c (V0 m c) A main_arg2 (by exact (by decide : ∀ w, Pipeline.arrRef spec0 w ≠ main_arg2))).trans (V_main_arg2 m c)

theorem left_arg3 : left m c A main_arg3 = m ((c.tc : Thread nD τ).loc main_arg3) := by
  unfold left Cert.Tail.leftBy
  refine (?_ : _ = Pipeline.withArrays spec0 c (V0 m c) A (Proc.devRef .tc main_arg3)).trans ?_
  · simp only [List.flatten_cons, List.flatten_nil, List.append_nil]
    after_results_simp
  · exact (Pipeline.withArrays_of_ne spec0 c (V0 m c) A main_arg3 (by exact (by decide : ∀ w, Pipeline.arrRef spec0 w ≠ main_arg3))).trans (V_main_arg3 m c)

theorem left_arg4 : left m c A main_arg4 = m ((c.tc : Thread nD τ).loc main_arg4) := by
  unfold left Cert.Tail.leftBy
  refine (?_ : _ = Pipeline.withArrays spec0 c (V0 m c) A (Proc.devRef .tc main_arg4)).trans ?_
  · simp only [List.flatten_cons, List.flatten_nil, List.append_nil]
    after_results_simp
  · exact (Pipeline.withArrays_of_ne spec0 c (V0 m c) A main_arg4 (by exact (by decide : ∀ w, Pipeline.arrRef spec0 w ≠ main_arg4))).trans (V_main_arg4 m c)

end Left

/-- The kernel program's frame: its arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono
    (fun r h => ⟨fun c => by
      obtain ⟨A, -, h2⟩ := h.1 c
      exact ⟨(h2 main_arg0 (Pipeline.mem_restRefs_of main_arg0 (by decide) (by decide))).trans (left_arg0 m c A), (h2 main_arg1 (Pipeline.mem_restRefs_of main_arg1 (by decide) (by decide))).trans (left_arg1 m c A), (h2 main_arg2 (Pipeline.mem_restRefs_of main_arg2 (by decide) (by decide))).trans (left_arg2 m c A), (h2 main_arg3 (Pipeline.mem_restRefs_of main_arg3 (by decide) (by decide))).trans (left_arg3 m c A), (h2 main_arg4 (Pipeline.mem_restRefs_of main_arg4 (by decide) (by decide))).trans (left_arg4 m c A)⟩, h.2⟩)
    (run_main m ρ)

end Cert.KernelRun
-- ==== Proof.KBody.lean ====
/-
  The kernel's body at one point, with the values it leaves: each output block ends as it was but for the row of the point.
-/
module

public import proofs.«01_k».proof.Proof.Gen.KernelIdeal.Skeleton
public import proofs.«01_k».proof.Proof.Gen.KernelIdeal.Frame
public import Idealize.ShloMosaic.Lib.WholeRead
public import Idealize.ShloMosaic.Lib.VecWindow

@[expose] public section

set_option maxRecDepth 16384

noncomputable section

namespace Cert.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The row of a block that point `i` works on. -/
def rowOf {e : EltTy} (X : Vec F S26x1024 e) (i : grid0.Coords) : Vec F S1x1024 e :=
  fun y => X ((Rect.unit (s := S26x1024) (k0_off1 i) S1x1024.size (k0_off1_inb i)).emb y)

/-- A row of the list of indices. -/
def idxRow (X : Vec F S4x1024 .i32) (k : ℕ) (h : ∀ a, (![k, 0] : Fin 2 → ℕ) a + S1x1024.size a ≤ S4x1024.size a) : Vec F S1x1024 .i32 :=
  fun y => X ((Rect.unit (s := S4x1024) ![k, 0] S1x1024.size h).emb y)

/-- Whether the row's positions were chosen before. -/
def maskRow (i : grid0.Coords) (x3 : Vec F S26x1024 .i32) : IVec S1x1024 1 := k0_pay4 (F := F) (rowOf x3 i)

/-- Whether the row's positions are among the listed ones. -/
def hitRow (i : grid0.Coords) (x4 : Vec F S4x1024 .i32) : IVec S1x1024 1 :=
  k0_pay5 (F := F) i (idxRow x4 0 inb_S4x1024_S1x1024_0_0) (idxRow x4 1 inb_S4x1024_S1x1024_1_0) (idxRow x4 2 inb_S4x1024_S1x1024_2_0) (idxRow x4 3 inb_S4x1024_S1x1024_3_0)

/-- Whether the row's positions are chosen now and were not before. -/
def newRow (i : grid0.Coords) (x3 : Vec F S26x1024 .i32) (x4 : Vec F S4x1024 .i32) : IVec S1x1024 1 :=
  k0_pay6 (F := F) i (rowOf x3 i) (idxRow x4 0 inb_S4x1024_S1x1024_0_0) (idxRow x4 1 inb_S4x1024_S1x1024_1_0) (idxRow x4 2 inb_S4x1024_S1x1024_2_0) (idxRow x4 3 inb_S4x1024_S1x1024_3_0)

/-- The row of tokens that point `i` leaves. -/
def tokRow (i : grid0.Coords) (x0 x1 : Vec F S1x1000x1024 .f32) (x2 x3 : Vec F S26x1024 .i32) (x4 : Vec F S4x1024 .i32) : Vec F S1x1024 .i32 :=
  k0_pay1 (F := F) (newRow i x3 x4) (k0_pay7 x0 x1) (rowOf x2 i)

/-- The row of the new mask that point `i` leaves. -/
def chosenRow (i : grid0.Coords) (x3 : Vec F S26x1024 .i32) (x4 : Vec F S4x1024 .i32) : Vec F S1x1024 .i32 :=
  k0_pay2 (maskRow i x3) (hitRow i x4)

/-- The row of the mask in floats that point `i` leaves. -/
def floatRow (i : grid0.Coords) (x3 : Vec F S26x1024 .i32) : Vec F S1x1024 .f32 :=
  k0_pay3 (F := F) (maskRow i x3)

/-- A block with one row replaced. -/
def putRow {e : EltTy} (X : Vec F S26x1024 e) (i : grid0.Coords) (w : Vec F S1x1024 e) : Vec F S26x1024 e :=
  VecWindow.put (s := S26x1024) X (k0_off1 i) S1x1024.size w

/-- A load of a whole block reads the block. -/
theorem load_whole {m : Memref sig .tc .vmem S1x1000x1024 .f32} (h : m.IsWhole) (X : Vec F S1x1000x1024 .f32)
    (inb : ∀ a, (![0, 0, 0] : Fin 3 → ℕ) a + S1x1000x1024.size a ≤ S1x1000x1024.size a) :
    View.readAt (Elt F) m.view (Rect.unit (s := S1x1000x1024) ![0, 0, 0] S1x1000x1024.size inb).toLoadRect (h.unread X) = X := by
  funext y
  rw [h.readAt_unread]
  refine congrArg X (funext fun a => Fin.ext ?_)
  show (![0, 0, 0] : Fin 3 → ℕ) a + 1 * (y a).val = (y a).val
  fin_cases a <;> simp

/-- A load of a block's row reads the row. -/
theorem load_row {e : EltTy} {m : Memref sig .tc .vmem S26x1024 e} (h : m.IsWhole) (X : Vec F S26x1024 e) (i : grid0.Coords) :
    View.readAt (Elt F) m.view (Rect.unit (s := S26x1024) (k0_off1 i) S1x1024.size (k0_off1_inb i)).toLoadRect (h.unread X) = rowOf X i :=
  funext fun y => h.readAt_unread X _ y

/-- A load of a row of the list of indices reads that row. -/
theorem load_idx {m : Memref sig .tc .vmem S4x1024 .i32} (h : m.IsWhole) (X : Vec F S4x1024 .i32) (k : ℕ)
    (hk : ∀ a, (![k, 0] : Fin 2 → ℕ) a + S1x1024.size a ≤ S4x1024.size a) :
    View.readAt (Elt F) m.view (Rect.unit (s := S4x1024) ![k, 0] S1x1024.size hk).toLoadRect (h.unread X) = idxRow X k hk :=
  funext fun y => h.readAt_unread X _ y

/-- Storing a row over a block leaves the block with that row replaced. -/
theorem store_row {e : EltTy} {m : Memref sig .tc .vmem S26x1024 e} (h : m.IsWhole) (X : Vec F S26x1024 e) (i : grid0.Coords) (w w' : Vec F S1x1024 e) (e : w = w') :
    m.view.read (Elt F) (m.view.writes (Elt F) (h.unread X) [⟨Rect.unit (s := S26x1024) (k0_off1 i) S1x1024.size (k0_off1_inb i), w⟩]) = putRow X i w' := by
  subst e
  rw [View.read_writes_cons_put m.view _ (k0_off1_inb i) w [] rfl, View.writes_nil, h.read_unread]
  rfl

set_option maxHeartbeats 1000000 in
/-- The body at point `i`: the inputs stay, and each output block has its row `i` replaced. -/
theorem body_run (c : Dev nD) (i : grid0.Coords) (arg1 : Memref sig .tc .vmem S1x1000x1024 .f32) (harg1 : arg1.IsWhole) (arg2 : Memref sig .tc .vmem S1x1000x1024 .f32) (harg2 : arg2.IsWhole) (arg3 : Memref sig .tc .vmem S26x1024 .i32) (harg3 : arg3.IsWhole) (arg4 : Memref sig .tc .vmem S26x1024 .i32) (harg4 : arg4.IsWhole) (arg5 : Memref sig .tc .vmem S4x1024 .i32) (harg5 : arg5.IsWhole) (arg6 : Memref sig .tc .vmem S26x1024 .i32) (harg6 : arg6.IsWhole) (arg7 : Memref sig .tc .vmem S26x1024 .i32) (harg7 : arg7.IsWhole) (arg8 : Memref sig .tc .vmem S26x1024 .f32) (harg8 : arg8.IsWhole)
    (x0 : Vec F S1x1000x1024 .f32) (x1 : Vec F S1x1000x1024 .f32) (x2 : Vec F S26x1024 .i32) (x3 : Vec F S26x1024 .i32) (x4 : Vec F S4x1024 .i32)
    (y5 : Vec F S26x1024 .i32) (y6 : Vec F S26x1024 .i32) (y7 : Vec F S26x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (putRow y5 i (tokRow i x0 x1 x2 x3 x4)) ∗ owns (c : Thread nD τ) arg7 fullShare (putRow y6 i (chosenRow i x3 x4)) ∗ owns (c : Thread nD τ) arg8 fullShare (putRow y7 i (floatRow i x3))) -∗ K ⟨⟩))
          ⊢ wp frame (wpE (defs₀ (F := F)) Variants.none c none) E (cc0_tc_body i arg1 harg1 arg2 harg2 arg3 harg3 arg4 harg4 arg5 harg5 arg6 harg6 arg7 harg7 arg8 harg8) K := by
    intro E K
    simp only [cc0_tc_body_eq_skeleton]; unfold cc0_tc_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7
    sl_exec
    sl_step
    iapply Hk
    isplitl [H0]
    · iexists _
      isplitr
      · ipureintro; exact harg1.read_unread _
      iexact H0
    isplitl [H1]
    · iexists _
      isplitr
      · ipureintro; exact harg2.read_unread _
      iexact H1
    isplitl [H2]
    · iexists _
      isplitr
      · ipureintro; exact harg3.read_unread _
      iexact H2
    isplitl [H3]
    · iexists _
      isplitr
      · ipureintro; exact harg4.read_unread _
      iexact H3
    isplitl [H4]
    · iexists _
      isplitr
      · ipureintro; exact harg5.read_unread _
      iexact H4
    isplitl [H5]
    · iexists _
      isplitr
      swap; iexact H5
      ipureintro
      refine store_row harg6 y5 i _ _ ?_
      unfold tokRow newRow body_run.sl.r_2 body_run.sl.r_3
      rw [← load_row harg3 x2 i, ← load_row harg4 x3 i,
        ← load_idx harg5 x4 0, ← load_idx harg5 x4 1, ← load_idx harg5 x4 2, ← load_idx harg5 x4 3]
      rw [load_whole harg1, load_whole harg2]
    isplitl [H6]
    · iexists _
      isplitr
      swap; iexact H6
      ipureintro
      refine store_row harg7 y6 i _ _ ?_
      unfold chosenRow maskRow hitRow
      rw [← load_row harg4 x3 i, ← load_idx harg5 x4 0, ← load_idx harg5 x4 1, ← load_idx harg5 x4 2, ← load_idx harg5 x4 3]
      rfl
    iexists _
    isplitr
    swap; iexact H7
    ipureintro
    refine store_row harg8 y7 i _ _ ?_
    unfold floatRow maskRow
    rw [← load_row harg4 x3 i]
    rfl

end Cert.KBody

end
-- ==== Proof.KRun.lean ====
/-
  The whole run of the kernel's program: at every point the three output blocks hold the rows done so far, and after the last
  point the output arrays hold all of them.
-/
module

public import proofs.«01_k».proof.Proof.KBody
public import proofs.«01_k».proof.Proof.LaunchTail
public import Idealize.ShloMosaic.Lib.Pipeline.DatRel
public import Idealize.ShloMosaic.Lib.Pipeline.ArrRel

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen Cert.KBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the rows are -/

/-- The point that works on the row of an index. -/
def pointOf (y : S26x1024.Idx) : Fin cfg0.N := ⟨(y 0).val, (y 0).isLt⟩

/-- The place of an index inside its row. -/
def inRow (y : S26x1024.Idx) : S1x1024.Idx := fun | 0 => ⟨0, Nat.one_pos⟩ | 1 => ⟨(y 1).val, (y 1).isLt⟩

theorem coords_val : ∀ t : Fin cfg0.N, ((cfg0.grid.coords t) 0).val = t.val := by decide +kernel

theorem off_eq (t : Fin cfg0.N) : k0_off1 (cfg0.grid.coords t) = ![t.val, 0] := by
  rw [k0_off1_eq]; rw [coords_val]

/-- The tokens that the run leaves. -/
def tokAll (c : Dev nD) : Vec F S26x1024 .i32 := fun y =>
  tokRow (grid0.coords (pointOf y)) (iblk m c 0 (pointOf y)) (iblk m c 1 (pointOf y)) (iblk m c 2 (pointOf y)) (iblk m c 3 (pointOf y)) (iblk m c 4 (pointOf y)) (inRow y)

/-- The mask that the run leaves, as words. -/
def chosenAll (c : Dev nD) : Vec F S26x1024 .i32 := fun y =>
  chosenRow (grid0.coords (pointOf y)) (iblk m c 3 (pointOf y)) (iblk m c 4 (pointOf y)) (inRow y)

/-- The mask in floats that the run leaves. -/
def floatAll (c : Dev nD) : Vec F S26x1024 .f32 := fun y =>
  floatRow (grid0.coords (pointOf y)) (iblk m c 3 (pointOf y)) (inRow y)

/-- The rows up to `n` of a block are those of `G`. -/
def UpTo {e : EltTy} (n : ℕ) (G X : Vec F S26x1024 e) : Prop := ∀ y : S26x1024.Idx, (y 0).val ≤ n → X y = G y

/-- A block whose rows before `t` are done has its rows up to `t` done after row `t` is put. -/
theorem putRow_upTo {e : EltTy} (t : Fin cfg0.N) (G X : Vec F S26x1024 e) (w : Vec F S1x1024 e)
    (hX : ∀ y : S26x1024.Idx, (y 0).val < t.val → X y = G y) (hw : ∀ y : S26x1024.Idx, pointOf y = t → w (inRow y) = G y) :
    UpTo t.val G (putRow X (grid0.coords t) w) := by
  intro y hy
  unfold putRow VecWindow.put
  split
  · next h =>
    have h0 := h 0
    rw [show k0_off1 (grid0.coords t) = ![t.val, 0] from off_eq t] at h0
    have h0' : t.val ≤ (y 0).val := h0.1
    rw [← hw y (Fin.ext (by show (y 0).val = t.val; omega))]
    congr 1
    funext a
    apply Fin.ext
    rw [Rect.unitLocal_val]
    rw [show k0_off1 (grid0.coords t) = ![t.val, 0] from off_eq t]
    fin_cases a
    · show (y 0).val - t.val = 0
      omega
    · show (y 1).val - 0 = (y 1).val
      omega
  · next h =>
    refine hX y ?_
    by_contra hn
    refine h fun a => ?_
    rw [show k0_off1 (grid0.coords t) = ![t.val, 0] from off_eq t]
    fin_cases a
    · show t.val ≤ (y 0).val ∧ (y 0).val < t.val + 1
      omega
    · show 0 ≤ (y 1).val ∧ (y 1).val < 0 + 1024
      exact ⟨Nat.zero_le _, by have h2 : (y 1).val < 1024 := (y 1).isLt; omega⟩

/-! ## The proof data -/

/-- The inputs hold their blocks; the outputs are held to a predicate. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The outputs. -/
def marked : Fin cfg0.W → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true

/-- After point `t` an output block has its rows up to `t` done. -/
def done (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => UpTo (F := F) t.val (tokAll m c) X
  | ⟨6, _⟩ => fun X => UpTo (F := F) t.val (chosenAll m c) X
  | ⟨7, _⟩ => fun X => UpTo (F := F) t.val (floatAll m c) X

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The relational data of the run. -/
abbrev rdat (c : Dev nD) : Pipeline.RDat τ (Elt F) Unit ℕ (UR sig nD τ) ℕ (cfgs 0) c := (dats m 0 c).toRRel marked (done m c)

/-- What the body finds in output 5 has the rows before the point done. -/
theorem found5 (c : Dev nD) (t : Fin cfg0.N) (X : Vec F S26x1024 .i32) (h : (rdat m c).Finds 5 t X) :
    ∀ y : S26x1024.Idx, (y 0).val < t.val → X y = tokAll m c y := by
  intro y hy
  have ht : t.val ≠ 0 := by omega
  have hN : t.val < 26 := t.isLt
  rcases ((rdat m c).finds_of_pos ((cfg0.win 5).fetch_out rfl t) ht X).mp h with hf | hl
  · have := (flush0_5 _).mp hf
    simp only at this
    omega
  · have hd : UpTo (F := F) (t.val - 1) (tokAll m c) X := Pipeline.Dat.toRRel_leaves (dats m 0 c) (fgt := marked) (Rl := done m c) (w := 5 + 0) rfl hl
    exact hd y (by omega)

/-- What the body finds in output 6 has the rows before the point done. -/
theorem found6 (c : Dev nD) (t : Fin cfg0.N) (X : Vec F S26x1024 .i32) (h : (rdat m c).Finds 6 t X) :
    ∀ y : S26x1024.Idx, (y 0).val < t.val → X y = chosenAll m c y := by
  intro y hy
  have ht : t.val ≠ 0 := by omega
  have hN : t.val < 26 := t.isLt
  rcases ((rdat m c).finds_of_pos ((cfg0.win 6).fetch_out rfl t) ht X).mp h with hf | hl
  · have := (flush0_6 _).mp hf
    simp only at this
    omega
  · have hd : UpTo (F := F) (t.val - 1) (chosenAll m c) X := Pipeline.Dat.toRRel_leaves (dats m 0 c) (fgt := marked) (Rl := done m c) (w := 5 + 1) rfl hl
    exact hd y (by omega)

/-- What the body finds in output 7 has the rows before the point done. -/
theorem found7 (c : Dev nD) (t : Fin cfg0.N) (X : Vec F S26x1024 .f32) (h : (rdat m c).Finds 7 t X) :
    ∀ y : S26x1024.Idx, (y 0).val < t.val → X y = floatAll m c y := by
  intro y hy
  have ht : t.val ≠ 0 := by omega
  have hN : t.val < 26 := t.isLt
  rcases ((rdat m c).finds_of_pos ((cfg0.win 7).fetch_out rfl t) ht X).mp h with hf | hl
  · have := (flush0_7 _).mp hf
    simp only at this
    omega
  · have hd : UpTo (F := F) (t.val - 1) (floatAll m c) X := Pipeline.Dat.toRRel_leaves (dats m 0 c) (fgt := marked) (Rl := done m c) (w := 5 + 2) rfl hl
    exact hd y (by omega)

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜done m c 5 t X⌝ ∗ owns (c : Thread nD τ) (st0_5 t) fullShare X)
    ∗ (∃ X, ⌜done m c 6 t X⌝ ∗ owns (c : Thread nD τ) (st0_6 t) fullShare X)
    ∗ (∃ X, ⌜done m c 7 t X⌝ ∗ owns (c : Thread nD τ) (st0_7 t) fullShare X))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, %h5, H5⟩, ⟨%d6, %h6, H6⟩, ⟨%d7, %h7, H7⟩⟩
  iapply ((body_run c (grid0.coords t) _ _ _ _ _ _ _ _ _ _ _ _ _ _ _ _ (iblk m c 0 t) (iblk m c 1 t) (iblk m c 2 t) (iblk m c 3 t) (iblk m c 4 t) d5 d6 d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists _
    isplitr
    swap; iexact H5
    ipureintro
    exact putRow_upTo t (tokAll m c) d5 _ (found5 m c t d5 h5) fun y hy => by subst hy; rfl
  isplitl [H6]
  · iexists _
    isplitr
    swap; iexact H6
    ipureintro
    exact putRow_upTo t (chosenAll m c) d6 _ (found6 m c t d6 h6) fun y hy => by subst hy; rfl
  iexists _
  isplitr
  swap; iexact H7
  ipureintro
  exact putRow_upTo t (floatAll m c) d7 _ (found7 m c t d7 h7) fun y hy => by subst hy; rfl

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : Pipeline.BodyObligationRel (dats (F := F) m 0 c) (defs₀ (F := F)) Variants.none () Set.univ marked (done m c) := fun t => by
  rw [bigSep_W0, bigSep_W0, defs₀_row]
  exact triple_restated (sound_body m c t) rfl .rfl fun _ => .rfl

/-! ## The run -/

/-- What the lines after the region leave in a buffer, the arrays at `A`. -/
abbrev left (c : Dev nD) (A : (w : Fin cfg0.W) → Buf (Elt F) ((spec0 w).arr.view.loc (c.tc : Thread nD τ))) (b : Ref sig .tc) : Buf (Elt F) ((c.tc : Thread nD τ).loc b) :=
  Cert.Tail.leftBy cfgs 0 (V0 m) [hostOps1] c A b

set_option backward.isDefEq.respectTransparency.types false in
set_option maxHeartbeats 800000 in
/-- The run: the arrays end at contents that they may hold, the other buffers at what the lines after the region leave, and the
    counters at zero. -/
theorem run_main : θ_run defs (onTc (τ := τ) (main (F := F))) (s₀ m ρ) fun r =>
      (∀ c, ∃ A, (∀ w, (rdat m c).ArrAt w cfg0.N (A w))
        ∧ ∀ b ∈ Pipeline.restRefs sig spec0, r.2.mem ((c.tc : Thread nD τ).loc b) = left m c A b)
      ∧ r.2.sem = fun _ => 0 :=
  Cert.Tail.run_region_lines cfgs (0 : Fin 1) launch0 defs₀ Variants.none (rdat m) m ρ main
    (fun c => (body_obligation m c).toRRel) (fun c => (dats m 0 c).share_full fun _ => rfl) (fun _ _ => rfl)
    (V0 m) [hostOps1] sfx_sub sfx_fresh sfx_keeps (hmain m Variants.none) (A_eq m) (fun _ _ => rfl)

end Cert.KRun

end
-- ==== Proof.KValue.lean ====
/-
  The kernel program's results and arguments at the end of its run.
-/
module

public import proofs.«01_k».proof.Proof.KRun

@[expose] public section

set_option maxRecDepth 16384

noncomputable section

namespace Cert.KRun

open Idealize.ShloMosaic Idealize.ShloMosaic.TcCoe Idealize.ShloMosaic.StableHlo
open Idealize.SL Idealize.SL.Sem
open Idealize.ShloMosaic.Rounds
open Cert.KernelIdeal Cert.KernelIdeal.Gen Cert.KBody

variable {F : FTy → Type} [FloatOps F]
variable (m : (ℓ : Loc nD τ sig) → Buf (Elt F) ℓ) (ρ : Dev nD → PrngReg)

/-! ## The arrays after the last point -/

/-- The last point. -/
abbrev last : Fin cfg0.N := ⟨25, by decide⟩

theorem whole5 : (cfg0.win 5).WholeAt last := by decide +kernel

/-- Output 5's array after the run. -/
theorem arr5 (c : Dev nD) (G : Vec F S26x1024 .i32) (h : (rdat m c).ArrAt 5 cfg0.N G) : G = tokAll m c := by
  obtain ⟨X, hX, hG⟩ := h.emb_eq_of_wholeAt whole5
  have hd : UpTo (F := F) 25 (tokAll m c) X := Pipeline.Dat.toRRel_leaves (dats m 0 c) (fgt := marked) (Rl := done m c) (w := 5) rfl hX
  funext y
  exact (hG y).trans (hd y (Nat.le_of_lt_succ (y 0).isLt))

theorem whole6 : (cfg0.win 6).WholeAt last := by decide +kernel

/-- Output 6's array after the run. -/
theorem arr6 (c : Dev nD) (G : Vec F S26x1024 .i32) (h : (rdat m c).ArrAt 6 cfg0.N G) : G = chosenAll m c := by
  obtain ⟨X, hX, hG⟩ := h.emb_eq_of_wholeAt whole6
  have hd : UpTo (F := F) 25 (chosenAll m c) X := Pipeline.Dat.toRRel_leaves (dats m 0 c) (fgt := marked) (Rl := done m c) (w := 6) rfl hX
  funext y
  exact (hG y).trans (hd y (Nat.le_of_lt_succ (y 0).isLt))

theorem whole7 : (cfg0.win 7).WholeAt last := by decide +kernel

/-- Output 7's array after the run. -/
theorem arr7 (c : Dev nD) (G : Vec F S26x1024 .f32) (h : (rdat m c).ArrAt 7 cfg0.N G) : G = floatAll m c := by
  obtain ⟨X, hX, hG⟩ := h.emb_eq_of_wholeAt whole7
  have hd : UpTo (F := F) 25 (floatAll m c) X := Pipeline.Dat.toRRel_leaves (dats m 0 c) (fgt := marked) (Rl := done m c) (w := 7) rfl hX
  funext y
  exact (hG y).trans (hd y (Nat.le_of_lt_succ (y 0).isLt))

/-! ## The lines before the region -/

section Before

variable (V : Valuation τ sig (Elt F))

theorem in0_eq : after (List.flatten [hostOps0]) V (main_v0 : DevRef τ sig) = (transpose S26x1000x1024 [1, 2, 0] (V (main_arg0 : DevRef τ sig)) transposes_S1024x26x1000_S26x1000x1024_1_2_0 : FVec F S26x1000x1024 .f32) := by
  simp only [List.flatten_cons, List.flatten_nil, List.append_nil]
  after_results_simp
theorem in1_eq : after (List.flatten [hostOps0]) V (main_v1 : DevRef τ sig) = (transpose S26x1000x1024 [1, 2, 0] (V (main_arg1 : DevRef τ sig)) transposes_S1024x26x1000_S26x1000x1024_1_2_0 : FVec F S26x1000x1024 .f32) := by
  simp only [List.flatten_cons, List.flatten_nil, List.append_nil]
  after_results_simp
theorem in2_eq : after (List.flatten [hostOps0]) V (main_v2 : DevRef τ sig) = (transpose S26x1024 [1, 0] (V (main_arg2 : DevRef τ sig)) transposes_S1024x26_S26x1024_1_0 : IVec S26x1024 32) := by
  simp only [List.flatten_cons, List.flatten_nil, List.append_nil]
  after_results_simp
theorem in3_eq : after (List.flatten [hostOps0]) V (main_v5 : DevRef τ sig) = (extui 32 (transpose S26x1024 [1, 0] (V (main_arg3 : DevRef τ sig)) transposes_S1024x26_S26x1024_1_0 : IVec S26x1024 1) natLt_1_32 : IVec S26x1024 32) := by
  simp only [List.flatten_cons, List.flatten_nil, List.append_nil]
  after_results_simp
theorem in4_eq : after (List.flatten [hostOps0]) V (main_v4 : DevRef τ sig) = (transpose S4x1024 [1, 0] (V (main_arg4 : DevRef τ sig)) transposes_S1024x4_S4x1024_1_0 : IVec S4x1024 32) := by
  simp only [List.flatten_cons, List.flatten_nil, List.append_nil]
  after_results_simp

/-! ## The lines after the region -/

theorem out_tok_eq : after (List.flatten [hostOps1]) V (main_v10 : DevRef τ sig) = (transpose S1024x26 [1, 0] (V (main_v6_0 : DevRef τ sig)) transposes_S26x1024_S1024x26_1_0 : IVec S1024x26 32) := by
  simp only [List.flatten_cons, List.flatten_nil, List.append_nil]
  after_results_simp
theorem out_mask_eq : after (List.flatten [hostOps1]) V (main_v11 : DevRef τ sig) = (transpose S1024x26 [1, 0] (cmpi .ne (V (main_v6_1 : DevRef τ sig)) (broadcastInDim S26x1024 ![] bcast_S_S26x1024 (constantI S_ 32 0#32)) : IVec S26x1024 1) transposes_S26x1024_S1024x26_1_0 : IVec S1024x26 1) := by
  simp only [List.flatten_cons, List.flatten_nil, List.append_nil]
  after_results_simp
  try rfl
theorem out_float_eq : after (List.flatten [hostOps1]) V (main_v12 : DevRef τ sig) = (transpose S1024x26 [1, 0] (V (main_v6_2 : DevRef τ sig)) transposes_S26x1024_S1024x26_1_0 : FVec F S1024x26 .f32) := by
  simp only [List.flatten_cons, List.flatten_nil, List.append_nil]
  after_results_simp

end Before

section Left

variable (c : Dev nD) (A : (w : Fin cfg0.W) → Buf (Elt F) ((spec0 w).arr.view.loc (c.tc : Thread nD τ)))

theorem left_tok : left m c A main_v10 = (transpose S1024x26 [1, 0] (A 5) transposes_S26x1024_S1024x26_1_0 : IVec S1024x26 32) := by
  unfold left Cert.Tail.leftBy
  rw [out_tok_eq]
  exact congrArg (fun z : IVec S26x1024 32 => (transpose S1024x26 [1, 0] z transposes_S26x1024_S1024x26_1_0 : IVec S1024x26 32)) (Pipeline.withArrays_arr spec0 launch0.win.arr_inj c (V0 m c) A 5)

theorem left_mask : left m c A main_v11 = (transpose S1024x26 [1, 0] (cmpi .ne (A 6) (broadcastInDim S26x1024 ![] bcast_S_S26x1024 (constantI S_ 32 0#32)) : IVec S26x1024 1) transposes_S26x1024_S1024x26_1_0 : IVec S1024x26 1) := by
  unfold left Cert.Tail.leftBy
  rw [out_mask_eq]
  exact congrArg (fun z : IVec S26x1024 32 => (transpose S1024x26 [1, 0] (cmpi .ne z (broadcastInDim S26x1024 ![] bcast_S_S26x1024 (constantI S_ 32 0#32)) : IVec S26x1024 1) transposes_S26x1024_S1024x26_1_0 : IVec S1024x26 1)) (Pipeline.withArrays_arr spec0 launch0.win.arr_inj c (V0 m c) A 6)

theorem left_float : left m c A main_v12 = (transpose S1024x26 [1, 0] (A 7) transposes_S26x1024_S1024x26_1_0 : FVec F S1024x26 .f32) := by
  unfold left Cert.Tail.leftBy
  rw [out_float_eq]
  exact congrArg (fun z : FVec F S26x1024 .f32 => (transpose S1024x26 [1, 0] z transposes_S26x1024_S1024x26_1_0 : FVec F S1024x26 .f32)) (Pipeline.withArrays_arr spec0 launch0.win.arr_inj c (V0 m c) A 7)

theorem left_arg0 : left m c A main_arg0 = m ((c.tc : Thread nD τ).loc main_arg0) := by
  unfold left Cert.Tail.leftBy
  refine (?_ : _ = Pipeline.withArrays spec0 c (V0 m c) A (Proc.devRef .tc main_arg0)).trans ?_
  · simp only [List.flatten_cons, List.flatten_nil, List.append_nil]
    after_results_simp
  · exact (Pipeline.withArrays_of_ne spec0 c (V0 m c) A main_arg0 (by exact (by decide : ∀ w, Pipeline.arrRef spec0 w ≠ main_arg0))).trans (V_main_arg0 m c)

theorem left_arg1 : left m c A main_arg1 = m ((c.tc : Thread nD τ).loc main_arg1) := by
  unfold left Cert.Tail.leftBy
  refine (?_ : _ = Pipeline.withArrays spec0 c (V0 m c) A (Proc.devRef .tc main_arg1)).trans ?_
  · simp only [List.flatten_cons, List.flatten_nil, List.append_nil]
    after_results_simp
  · exact (Pipeline.withArrays_of_ne spec0 c (V0 m c) A main_arg1 (by exact (by decide : ∀ w, Pipeline.arrRef spec0 w ≠ main_arg1))).trans (V_main_arg1 m c)

theorem left_arg2 : left m c A main_arg2 = m ((c.tc : Thread nD τ).loc main_arg2) := by
  unfold left Cert.Tail.leftBy
  refine (?_ : _ = Pipeline.withArrays spec0 c (V0 m c) A (Proc.devRef .tc main_arg2)).trans ?_
  · simp only [List.flatten_cons, List.flatten_nil, List.append_nil]
    after_results_simp
  · exact (Pipeline.withArrays_of_ne spec0 c (V0 m c) A main_arg2 (by exact (by decide : ∀ w, Pipeline.arrRef spec0 w ≠ main_arg2))).trans (V_main_arg2 m c)

theorem left_arg3 : left m c A main_arg3 = m ((c.tc : Thread nD τ).loc main_arg3) := by
  unfold left Cert.Tail.leftBy
  refine (?_ : _ = Pipeline.withArrays spec0 c (V0 m c) A (Proc.devRef .tc main_arg3)).trans ?_
  · simp only [List.flatten_cons, List.flatten_nil, List.append_nil]
    after_results_simp
  · exact (Pipeline.withArrays_of_ne spec0 c (V0 m c) A main_arg3 (by exact (by decide : ∀ w, Pipeline.arrRef spec0 w ≠ main_arg3))).trans (V_main_arg3 m c)

theorem left_arg4 : left m c A main_arg4 = m ((c.tc : Thread nD τ).loc main_arg4) := by
  unfold left Cert.Tail.leftBy
  refine (?_ : _ = Pipeline.withArrays spec0 c (V0 m c) A (Proc.devRef .tc main_arg4)).trans ?_
  · simp only [List.flatten_cons, List.flatten_nil, List.append_nil]
    after_results_simp
  · exact (Pipeline.withArrays_of_ne spec0 c (V0 m c) A main_arg4 (by exact (by decide : ∀ w, Pipeline.arrRef spec0 w ≠ main_arg4))).trans (V_main_arg4 m c)

end Left

/-- The kernel program's frame: its arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono
    (fun r h => ⟨fun c => by
      obtain ⟨A, -, h2⟩ := h.1 c
      exact ⟨(h2 main_arg0 (Pipeline.mem_restRefs_of main_arg0 (by decide) (by decide))).trans (left_arg0 m c A), (h2 main_arg1 (Pipeline.mem_restRefs_of main_arg1 (by decide) (by decide))).trans (left_arg1 m c A), (h2 main_arg2 (Pipeline.mem_restRefs_of main_arg2 (by decide) (by decide))).trans (left_arg2 m c A), (h2 main_arg3 (Pipeline.mem_restRefs_of main_arg3 (by decide) (by decide))).trans (left_arg3 m c A), (h2 main_arg4 (Pipeline.mem_restRefs_of main_arg4 (by decide) (by decide))).trans (left_arg4 m c A)⟩, h.2⟩)
    (run_main m ρ)

/-- The kernel program's results and arguments at the end of its run. -/
theorem value : θ_run defs (onTc (τ := τ) (main (F := F))) ⟨m, fun _ => 0, ρ⟩ (fun r => ∀ c : Dev nD,
      r.2.mem ((c.tc : Thread nD τ).loc main_v10) = (transpose S1024x26 [1, 0] (tokAll m c) transposes_S26x1024_S1024x26_1_0 : IVec S1024x26 32)
      ∧ r.2.mem ((c.tc : Thread nD τ).loc main_v11) = (transpose S1024x26 [1, 0] (cmpi .ne (chosenAll m c) (broadcastInDim S26x1024 ![] bcast_S_S26x1024 (constantI S_ 32 0#32)) : IVec S26x1024 1) transposes_S26x1024_S1024x26_1_0 : IVec S1024x26 1)
      ∧ r.2.mem ((c.tc : Thread nD τ).loc main_v12) = (transpose S1024x26 [1, 0] (floatAll m c) transposes_S26x1024_S1024x26_1_0 : FVec F S1024x26 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => by
      obtain ⟨A, h1, h2⟩ := h.1 c
      refine ⟨(h2 main_v10 (Pipeline.mem_restRefs_of main_v10 (by decide) (by decide))).trans ?_, (h2 main_v11 (Pipeline.mem_restRefs_of main_v11 (by decide) (by decide))).trans ?_, (h2 main_v12 (Pipeline.mem_restRefs_of main_v12 (by decide) (by decide))).trans ?_, (h2 main_arg0 (Pipeline.mem_restRefs_of main_arg0 (by decide) (by decide))).trans (left_arg0 m c A), (h2 main_arg1 (Pipeline.mem_restRefs_of main_arg1 (by decide) (by decide))).trans (left_arg1 m c A), (h2 main_arg2 (Pipeline.mem_restRefs_of main_arg2 (by decide) (by decide))).trans (left_arg2 m c A), (h2 main_arg3 (Pipeline.mem_restRefs_of main_arg3 (by decide) (by decide))).trans (left_arg3 m c A), (h2 main_arg4 (Pipeline.mem_restRefs_of main_arg4 (by decide) (by decide))).trans (left_arg4 m c A)⟩
      · rw [left_tok, arr5 m c (A 5) (h1 5)]
      · rw [left_mask, arr6 m c (A 6) (h1 6)]
      · rw [left_float, arr7 m c (A 7) (h1 7)])
    (run_main m ρ)

end Cert.KRun

end
-- ==== Proof.RefRun.lean ====
/-
  The reference's run. Its @main is a straight line of host operations, so every buffer ends at the fold of the operations over the
  launch contents. The three results, each as one term of the argument arrays: the mask with the unmasked positions set (`refMask`),
  the float mask (`refFloat`) and the tokens (`refTok`, over the arg-max `refArg`).
-/
module

public import proofs.«01_k».proof.Defs
public import proofs.«01_k».proof.Proof.Gen.ReferenceIdeal
public import Idealize.ShloMosaic.Lib.StableHlo.Run
public import Idealize.ShloMosaic.Lib.Quiescent

@[expose] public section

set_option maxRecDepth 16384

noncomputable section

namespace Cert.RefRun

open Idealize.ShloMosaic Idealize.ShloMosaic.TcCoe Idealize.ShloMosaic.StableHlo Idealize.SL.Sem
open Cert.ReferenceIdeal Cert.ReferenceIdeal.Gen

variable {F : FTy → Type} [FloatOps F]

/-! ## The results, as terms of the arguments -/

/-- The float mask: zero where the mask is set, minus infinity elsewhere. -/
def refFloat (mk : IVec S1024x26 1) : FVec F S1024x26 .f32 :=
  select mk (broadcastInDim S1024x26 ![] bcast_S_S1024x26 (constant S_ .f32 0x00000000#32))
    (broadcastInDim S1024x26 ![] bcast_S_S1024x26 (constant S_ .f32 0xFF800000#32))

/-- The scores: the logits divided by the temperature one, plus the noise. -/
def refScore (lg ns : FVec F S1024x26x1000 .f32) : FVec F S1024x26x1000 .f32 :=
  addf (Host.divf lg (broadcastInDim S1024x26x1000 ![] bcast_S_S1024x26x1000 (constant S_ .f32 0x3F800000#32))) ns

/-- The best score of a row, by the printed reducer over score and index. -/
def argBest (x : FVec F S1024x26x1000 .f32) (y : IVec S1024x26x1000 32) (u : FVec F S_ .f32) (v : IVec S_ 32) : FVec F S1024x26 .f32 :=
  fun j => (Host.argReduce reducer_argmax_f32_i32 x y u v reducesTo_S1024x26x1000_S1024x26_d2 h_S_ j).1

/-- The index of the best score of a row, by the same reducer. -/
def argIdx (x : FVec F S1024x26x1000 .f32) (y : IVec S1024x26x1000 32) (u : FVec F S_ .f32) (v : IVec S_ 32) : IVec S1024x26 32 :=
  fun j => (Host.argReduce reducer_argmax_f32_i32 x y u v reducesTo_S1024x26x1000_S1024x26_d2 h_S_ j).2

/-- The arg-max of the scores along the last axis. -/
def refArg (lg ns : FVec F S1024x26x1000 .f32) : IVec S1024x26 32 :=
  argIdx (refScore lg ns) (iotaInDim S1024x26x1000 32 2) (constant S_ .f32 0xFF800000#32) (constantI S_ 32 0#32)

/-- The row numbers down a column, wrapped as an index is. -/
def refRows : IVec S1024x1 32 :=
  select (cmpi .slt (broadcastInDim S1024x1 ![0] bcast_S1024_S1024x1_0 (iotaInDim S1024 32 0))
      (broadcastInDim S1024x1 ![] bcast_S_S1024x1 (constantI S_ 32 0#32)))
    (addi (broadcastInDim S1024x1 ![0] bcast_S1024_S1024x1_0 (iotaInDim S1024 32 0))
      (broadcastInDim S1024x1 ![] bcast_S_S1024x1 (constantI S_ 32 1024#32)))
    (broadcastInDim S1024x1 ![0] bcast_S1024_S1024x1_0 (iotaInDim S1024 32 0))

/-- The columns to unmask, a negative one wrapped once. -/
def refCols (ix : IVec S1024x4 32) : IVec S1024x4 32 :=
  select (cmpi .slt ix (broadcastInDim S1024x4 ![] bcast_S_S1024x4 (constantI S_ 32 0#32)))
    (addi ix (broadcastInDim S1024x4 ![] bcast_S_S1024x4 (constantI S_ 32 26#32))) ix

/-- Two columns side by side along the last axis. -/
def pairUp (a b : IVec S1024x4x1 32) : IVec S1024x4x2 32 :=
  concatenate S1024x4x2 2 [⟨S1024x4x1, a⟩, ⟨S1024x4x1, b⟩] concatenates_S1024x4x1_S1024x4x1_S1024x4x2_d2

/-- The index pairs the mask is set at. -/
def refPairs (ix : IVec S1024x4 32) : IVec S1024x4x2 32 :=
  pairUp
    (broadcastInDim S1024x4x1 ![0, 1] bcast_S1024x4_S1024x4x1_0_1
      (broadcastInDim S1024x4 ![0, 1] bcast_S1024x1_S1024x4_0_1 refRows))
    (broadcastInDim S1024x4x1 ![0, 1] bcast_S1024x4_S1024x4x1_0_1 (refCols ix))

/-- The mask `x` set to `u` at the pairs `i`. -/
def setAt (x : IVec S1024x26 1) (i : IVec S1024x4x2 32) (u : IVec S1024x4 1) : IVec S1024x26 1 :=
  Host.scatter scatter_S1024x26_S1024x4x2_S1024x4_n_01_01_2 (fun _ b => b) x i u

/-- The mask with every named position set. -/
def refMask (mk : IVec S1024x26 1) (ix : IVec S1024x4 32) : IVec S1024x26 1 :=
  setAt mk (refPairs ix) (broadcastInDim S1024x4 ![] bcast_S_S1024x4 (constantI S_ 1 1#1))

/-- The tokens: the arg-max where the new mask differs from the old, the old token elsewhere. -/
def refTok (lg ns : FVec F S1024x26x1000 .f32) (x : IVec S1024x26 32) (mk : IVec S1024x26 1) (ix : IVec S1024x4 32) :
    IVec S1024x26 32 :=
  select (xori (refMask mk ix) mk) (refArg lg ns) x

/-! ## The run -/

/-- The operations of @main in order, its calls replaced by their bodies; the arg-max, the pairing and the scatter are parameters. -/
abbrev opsOf (best : FVec F S1024x26x1000 .f32 → IVec S1024x26x1000 32 → FVec F S_ .f32 → IVec S_ 32 → FVec F S1024x26 .f32)
    (idx : FVec F S1024x26x1000 .f32 → IVec S1024x26x1000 32 → FVec F S_ .f32 → IVec S_ 32 → IVec S1024x26 32)
    (pair : IVec S1024x4x1 32 → IVec S1024x4x1 32 → IVec S1024x4x2 32)
    (scat : IVec S1024x26 1 → IVec S1024x4x2 32 → IVec S1024x4 1 → IVec S1024x26 1) : List (HloOp τ sig (Elt F)) :=
  [ nullary main_cst (constant S_ .f32 0x00000000#32),
    nullary main_cst_0 (constant S_ .f32 0xFF800000#32),
    TRef.unary (.of main_cst : TRef sig ⟨S_, .f32⟩) main_call0.v0 (broadcastInDim S1024x26 ![] bcast_S_S1024x26),
    TRef.unary (.of main_cst_0 : TRef sig ⟨S_, .f32⟩) main_call0.v1 (broadcastInDim S1024x26 ![] bcast_S_S1024x26),
    TRef.ternary (.of main_arg3 : TRef sig ⟨S1024x26, .i1⟩) main_call0.v0 main_call0.v1 main_call0.v2 select,
    nullary main_cst_1 (constant S_ .f32 0x3F800000#32),
    unary main_cst_1 main_v1 (broadcastInDim S1024x26x1000 ![] bcast_S_S1024x26x1000),
    binary main_arg0 main_v1 main_v2 Host.divf,
    binary main_v2 main_arg1 main_v3 addf,
    TRef.nullary main_call1.v0 (iotaInDim S1024x26x1000 32 2),
    TRef.nullary main_call1.cst (constant S_ .f32 0xFF800000#32),
    TRef.nullary main_call1.c (constantI S_ 32 0#32),
    TRef.quaternary (.of main_v3 : TRef sig ⟨S1024x26x1000, .f32⟩) main_call1.v0 main_call1.cst main_call1.c main_call1.v1_0 best,
    TRef.quaternary (.of main_v3 : TRef sig ⟨S1024x26x1000, .f32⟩) main_call1.v0 main_call1.cst main_call1.c main_call1.v1_1 idx,
    nullary main_v5 (iotaInDim S1024 32 0),
    unary main_v5 main_v6 (broadcastInDim S1024x1 ![0] bcast_S1024_S1024x1_0),
    nullary main_c (constantI S_ 32 0#32),
    unary main_c main_v7 (broadcastInDim S1024x1 ![] bcast_S_S1024x1),
    binary main_v6 main_v7 main_v8 (cmpi .slt),
    nullary main_c_2 (constantI S_ 32 1024#32),
    unary main_c_2 main_v9 (broadcastInDim S1024x1 ![] bcast_S_S1024x1),
    binary main_v6 main_v9 main_v10 addi,
    ternary main_v8 main_v10 main_v6 main_v11 select,
    nullary main_c_3 (constantI S_ 32 0#32),
    unary main_c_3 main_v12 (broadcastInDim S1024x4 ![] bcast_S_S1024x4),
    binary main_arg4 main_v12 main_v13 (cmpi .slt),
    nullary main_c_4 (constantI S_ 32 26#32),
    unary main_c_4 main_v14 (broadcastInDim S1024x4 ![] bcast_S_S1024x4),
    binary main_arg4 main_v14 main_v15 addi,
    ternary main_v13 main_v15 main_arg4 main_v16 select,
    unary main_v11 main_v17 (broadcastInDim S1024x4 ![0, 1] bcast_S1024x1_S1024x4_0_1),
    unary main_v17 main_v18 (broadcastInDim S1024x4x1 ![0, 1] bcast_S1024x4_S1024x4x1_0_1),
    unary main_v16 main_v19 (broadcastInDim S1024x4x1 ![0, 1] bcast_S1024x4_S1024x4x1_0_1),
    binary main_v18 main_v19 main_v20 pair,
    nullary main_c_5 (constantI S_ 1 1#1),
    unary main_c_5 main_v21 (broadcastInDim S1024x4 ![] bcast_S_S1024x4),
    ternary main_arg3 main_v20 main_v21 main_v22 scat,
    binary main_v22 main_arg3 main_v23 xori,
    TRef.ternary (.of main_v23 : TRef sig ⟨S1024x26, .i1⟩) (.of main_v4 : TRef sig ⟨S1024x26, .i32⟩) (.of main_arg2 : TRef sig ⟨S1024x26, .i32⟩) main_call2.v0 select ]

/-- The operations of @main. -/
abbrev ops : List (HloOp τ sig (Elt F)) := opsOf argBest argIdx pairUp setAt

theorem main_eq (c : Dev nD) : main (F := F) c = seq ops := by
  simp only [main, fn_where.body, fn_argmax.body, fn_where_0.body, seq, bind_assoc, pure_bind]
  rfl

section Of

variable (best : FVec F S1024x26x1000 .f32 → IVec S1024x26x1000 32 → FVec F S_ .f32 → IVec S_ 32 → FVec F S1024x26 .f32)
    (idx : FVec F S1024x26x1000 .f32 → IVec S1024x26x1000 32 → FVec F S_ .f32 → IVec S_ 32 → IVec S1024x26 32)
    (pair : IVec S1024x4x1 32 → IVec S1024x4x1 32 → IVec S1024x4x2 32)
    (scat : IVec S1024x26 1 → IVec S1024x4x2 32 → IVec S1024x4 1 → IVec S1024x26 1) (V : Valuation τ sig (Elt F))

theorem maskOf_eq :
    after (opsOf best idx pair scat) V (main_v22 : DevRef τ sig)
      = scat (V (main_arg3 : DevRef τ sig))
          (pair (broadcastInDim S1024x4x1 ![0, 1] bcast_S1024x4_S1024x4x1_0_1
              (broadcastInDim S1024x4 ![0, 1] bcast_S1024x1_S1024x4_0_1 refRows))
            (broadcastInDim S1024x4x1 ![0, 1] bcast_S1024x4_S1024x4x1_0_1 (refCols (V (main_arg4 : DevRef τ sig)))))
          (broadcastInDim S1024x4 ![] bcast_S_S1024x4 (constantI S_ 1 1#1)) := by
  unfold refCols refRows
  after_results_simp

theorem tokOf_eq :
    after (opsOf best idx pair scat) V (main_v24 : DevRef τ sig)
      = select (xori (scat (V (main_arg3 : DevRef τ sig))
          (pair (broadcastInDim S1024x4x1 ![0, 1] bcast_S1024x4_S1024x4x1_0_1
              (broadcastInDim S1024x4 ![0, 1] bcast_S1024x1_S1024x4_0_1 refRows))
            (broadcastInDim S1024x4x1 ![0, 1] bcast_S1024x4_S1024x4x1_0_1 (refCols (V (main_arg4 : DevRef τ sig)))))
          (broadcastInDim S1024x4 ![] bcast_S_S1024x4 (constantI S_ 1 1#1))) (V (main_arg3 : DevRef τ sig)))
        (idx (refScore (V (main_arg0 : DevRef τ sig)) (V (main_arg1 : DevRef τ sig))) (iotaInDim S1024x26x1000 32 2)
          (constant S_ .f32 0xFF800000#32) (constantI S_ 32 0#32))
        (V (main_arg2 : DevRef τ sig)) := by
  unfold refCols refRows refScore
  after_results_simp
  rfl

end Of

theorem tok_eq (V : Valuation τ sig (Elt F)) :
    after ops V (main_v24 : DevRef τ sig)
      = refTok (V (main_arg0 : DevRef τ sig)) (V (main_arg1 : DevRef τ sig)) (V (main_arg2 : DevRef τ sig))
          (V (main_arg3 : DevRef τ sig)) (V (main_arg4 : DevRef τ sig)) :=
  tokOf_eq argBest argIdx pairUp setAt V

theorem mask_eq (V : Valuation τ sig (Elt F)) :
    after ops V (main_v22 : DevRef τ sig) = refMask (V (main_arg3 : DevRef τ sig)) (V (main_arg4 : DevRef τ sig)) :=
  maskOf_eq argBest argIdx pairUp setAt V

theorem float_eq (V : Valuation τ sig (Elt F)) :
    after ops V (main_v0 : DevRef τ sig) = refFloat (F := F) (V (main_arg3 : DevRef τ sig)) := by
  after_results_simp
  rfl

theorem arg0_eq (V : Valuation τ sig (Elt F)) :
    after ops V (main_arg0 : DevRef τ sig) = V (main_arg0 : DevRef τ sig) := by
  simp only [ops, opsOf, after_cons, after_nil]
  rfl

theorem arg1_eq (V : Valuation τ sig (Elt F)) :
    after ops V (main_arg1 : DevRef τ sig) = V (main_arg1 : DevRef τ sig) := by
  simp only [ops, opsOf, after_cons, after_nil]
  rfl

theorem arg2_eq (V : Valuation τ sig (Elt F)) :
    after ops V (main_arg2 : DevRef τ sig) = V (main_arg2 : DevRef τ sig) := by
  simp only [ops, opsOf, after_cons, after_nil]
  rfl

theorem arg3_eq (V : Valuation τ sig (Elt F)) :
    after ops V (main_arg3 : DevRef τ sig) = V (main_arg3 : DevRef τ sig) := by
  simp only [ops, opsOf, after_cons, after_nil]
  rfl

theorem arg4_eq (V : Valuation τ sig (Elt F)) :
    after ops V (main_arg4 : DevRef τ sig) = V (main_arg4 : DevRef τ sig) := by
  simp only [ops, opsOf, after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., ternary_bufs_sub .., nullary_bufs_sub
    .., unary_bufs_sub .., binary_bufs_sub .., binary_bufs_sub .., nullary_bufs_sub .., nullary_bufs_sub ..,
    nullary_bufs_sub .., quaternary_bufs_sub .., quaternary_bufs_sub .., nullary_bufs_sub .., unary_bufs_sub ..,
    nullary_bufs_sub .., unary_bufs_sub .., binary_bufs_sub .., nullary_bufs_sub .., unary_bufs_sub ..,
    binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub
    .., unary_bufs_sub .., binary_bufs_sub .., nullary_bufs_sub .., unary_bufs_sub .., ternary_bufs_sub ..,
    binary_bufs_sub .., ternary_bufs_sub ..⟩

/-- Every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's frame: its arguments end unchanged and every counter reads zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono
    (fun r h => ⟨fun c => ⟨(h c main_arg0).trans (arg0_eq _), (h c main_arg1).trans (arg1_eq _), (h c main_arg2).trans (arg2_eq _),
      (h c main_arg3).trans (arg3_eq _), (h c main_arg4).trans (arg4_eq _)⟩, sem_eq_zero_of_no_sems (by decide) r.2⟩)
    (run_main m ρ)

/-- The reference's results and arguments at the end of its run. -/
theorem value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v24)
          = refTok (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_v22)
          = refMask (m ((c.tc : Thread nD τ).loc main_arg3)) (m ((c.tc : Thread nD τ).loc main_arg4))
      ∧ r.2.mem ((c.tc : Thread nD τ).loc main_v0) = refFloat (F := F) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨(h c main_v24).trans (tok_eq _), (h c main_v22).trans (mask_eq _), (h c main_v0).trans (float_eq _),
      (h c main_arg0).trans (arg0_eq _), (h c main_arg1).trans (arg1_eq _), (h c main_arg2).trans (arg2_eq _),
      (h c main_arg3).trans (arg3_eq _), (h c main_arg4).trans (arg4_eq _)⟩)
    (run_main m ρ)

end Cert.RefRun

end
-- ==== Proof.Blocks.lean ====
/-
  The kernel's input blocks read at an index, in terms of the argument arrays.
-/
module

public import proofs.«01_k».proof.Proof.KValue
public import Idealize.ShloMosaic.Lib.Pointwise
public import Idealize.ShloMosaic.Lib.ValueLayout
public import Idealize.ShloMosaic.Lib.Pipeline.Value

@[expose] public section

set_option maxRecDepth 16384

noncomputable section

namespace Cert.Blocks

open Idealize.ShloMosaic Idealize.ShloMosaic.TcCoe
open Idealize.SL Idealize.SL.Sem
open Cert.KernelIdeal Cert.KernelIdeal.Gen Cert.KBody Cert.KRun

variable {F : FTy → Type} [FloatOps F]
variable (m : (ℓ : Loc nD τ sig) → Buf (Elt F) ℓ)

/-- The point as a row of the arrays. -/
def row (t : Fin cfg0.N) : Fin 26 := ⟨t.val, t.isLt⟩

theorem at0 : ∀ t : Fin cfg0.N, (cfg0.win 0).index t 0 = t.val ∧ (cfg0.win 0).index t 1 = 0 ∧ (cfg0.win 0).index t 2 = 0 := by decide +kernel
theorem at1 : ∀ t : Fin cfg0.N, (cfg0.win 1).index t 0 = t.val ∧ (cfg0.win 1).index t 1 = 0 ∧ (cfg0.win 1).index t 2 = 0 := by decide +kernel
theorem at2 : ∀ t : Fin cfg0.N, (cfg0.win 2).index t 0 = 0 ∧ (cfg0.win 2).index t 1 = 0 := by decide +kernel
theorem at3 : ∀ t : Fin cfg0.N, (cfg0.win 3).index t 0 = 0 ∧ (cfg0.win 3).index t 1 = 0 := by decide +kernel
theorem at4 : ∀ t : Fin cfg0.N, (cfg0.win 4).index t 0 = 0 ∧ (cfg0.win 4).index t 1 = 0 := by decide +kernel

theorem emb0 (t : Fin cfg0.N) (v : Fin 1000) (b : Fin 1024) :
    ((cfg0.win 0).rect t).emb (ix3 (0 : Fin 1) v b) = (ix3 (row t) v b : S26x1000x1024.Idx) := by
  funext a
  apply Fin.ext
  match a with
  | ⟨0, _⟩ => exact ((cfg0.win 0).rect_emb_val t _ 0 rfl).trans (by rw [(at0 t).1]; show t.val * 1 + 0 = t.val; omega)
  | ⟨1, _⟩ => exact Pipeline.Window.rect_emb_val_of_index_zero _ t 1 (at0 t).2.1 _
  | ⟨2, _⟩ => exact Pipeline.Window.rect_emb_val_of_index_zero _ t 2 (at0 t).2.2 _

theorem emb1 (t : Fin cfg0.N) (v : Fin 1000) (b : Fin 1024) :
    ((cfg0.win 1).rect t).emb (ix3 (0 : Fin 1) v b) = (ix3 (row t) v b : S26x1000x1024.Idx) := by
  funext a
  apply Fin.ext
  match a with
  | ⟨0, _⟩ => exact ((cfg0.win 1).rect_emb_val t _ 0 rfl).trans (by rw [(at1 t).1]; show t.val * 1 + 0 = t.val; omega)
  | ⟨1, _⟩ => exact Pipeline.Window.rect_emb_val_of_index_zero _ t 1 (at1 t).2.1 _
  | ⟨2, _⟩ => exact Pipeline.Window.rect_emb_val_of_index_zero _ t 2 (at1 t).2.2 _

theorem emb2 (t : Fin cfg0.N) (r : Fin 26) (b : Fin 1024) :
    ((cfg0.win 2).rect t).emb (ix2 r b) = (ix2 r b : S26x1024.Idx) := by
  funext a
  apply Fin.ext
  match a with
  | ⟨0, _⟩ => exact Pipeline.Window.rect_emb_val_of_index_zero _ t 0 (at2 t).1 _
  | ⟨1, _⟩ => exact Pipeline.Window.rect_emb_val_of_index_zero _ t 1 (at2 t).2 _

theorem emb3 (t : Fin cfg0.N) (r : Fin 26) (b : Fin 1024) :
    ((cfg0.win 3).rect t).emb (ix2 r b) = (ix2 r b : S26x1024.Idx) := by
  funext a
  apply Fin.ext
  match a with
  | ⟨0, _⟩ => exact Pipeline.Window.rect_emb_val_of_index_zero _ t 0 (at3 t).1 _
  | ⟨1, _⟩ => exact Pipeline.Window.rect_emb_val_of_index_zero _ t 1 (at3 t).2 _

theorem emb4 (t : Fin cfg0.N) (k : Fin 4) (b : Fin 1024) :
    ((cfg0.win 4).rect t).emb (ix2 k b) = (ix2 k b : S4x1024.Idx) := by
  funext a
  apply Fin.ext
  match a with
  | ⟨0, _⟩ => exact Pipeline.Window.rect_emb_val_of_index_zero _ t 0 (at4 t).1 _
  | ⟨1, _⟩ => exact Pipeline.Window.rect_emb_val_of_index_zero _ t 1 (at4 t).2 _

/-- A three-axis array with its first axis moved last, read at an index. -/
theorem turned_apply {α : Type} (x : S1024x26x1000.Idx → α) (r : Fin 26) (v : Fin 1000) (b : Fin 1024) :
    transpose S26x1000x1024 [1, 2, 0] x transposes_S1024x26x1000_S26x1000x1024_1_2_0 (ix3 r v b) = x (ix3 b r v) :=
  transpose_apply _ x _ _ _ fun a => by fin_cases a <;> rfl

/-! ## The blocks over the arrays as the region finds them -/

theorem V_v0 (c : Dev nD) : V m c main_v0 = (transpose S26x1000x1024 [1, 2, 0] (m ((c.tc : Thread nD τ).loc main_arg0)) transposes_S1024x26x1000_S26x1000x1024_1_2_0 : FVec F S26x1000x1024 .f32) := in0_eq _
theorem V_v1 (c : Dev nD) : V m c main_v1 = (transpose S26x1000x1024 [1, 2, 0] (m ((c.tc : Thread nD τ).loc main_arg1)) transposes_S1024x26x1000_S26x1000x1024_1_2_0 : FVec F S26x1000x1024 .f32) := in1_eq _
theorem V_v2 (c : Dev nD) : V m c main_v2 = (transpose S26x1024 [1, 0] (m ((c.tc : Thread nD τ).loc main_arg2)) transposes_S1024x26_S26x1024_1_0 : IVec S26x1024 32) := in2_eq _
theorem V_v5 (c : Dev nD) : V m c main_v5 = (extui 32 (transpose S26x1024 [1, 0] (m ((c.tc : Thread nD τ).loc main_arg3)) transposes_S1024x26_S26x1024_1_0 : IVec S26x1024 1) natLt_1_32 : IVec S26x1024 32) := in3_eq _
theorem V_v4 (c : Dev nD) : V m c main_v4 = (transpose S4x1024 [1, 0] (m ((c.tc : Thread nD τ).loc main_arg4)) transposes_S1024x4_S4x1024_1_0 : IVec S4x1024 32) := in4_eq _

theorem read0 (X : FVec F S26x1000x1024 .f32) (t : Fin cfg0.N) (v : Fin 1000) (b : Fin 1024) :
    (((cfg0.win 0).blk t).view.read (Elt F) X : FVec F S1x1000x1024 .f32) (ix3 (0 : Fin 1) v b) = X (ix3 (row t) v b) :=
  (rfl : _ = X (((cfg0.win 0).rect t).emb (ix3 (0 : Fin 1) v b))).trans (congrArg X (emb0 t v b))
theorem read1 (X : FVec F S26x1000x1024 .f32) (t : Fin cfg0.N) (v : Fin 1000) (b : Fin 1024) :
    (((cfg0.win 1).blk t).view.read (Elt F) X : FVec F S1x1000x1024 .f32) (ix3 (0 : Fin 1) v b) = X (ix3 (row t) v b) :=
  (rfl : _ = X (((cfg0.win 1).rect t).emb (ix3 (0 : Fin 1) v b))).trans (congrArg X (emb1 t v b))
theorem read2 (X : IVec S26x1024 32) (t : Fin cfg0.N) (r : Fin 26) (b : Fin 1024) :
    (((cfg0.win 2).blk t).view.read (Elt F) X : IVec S26x1024 32) (ix2 r b) = X (ix2 r b) :=
  (rfl : _ = X (((cfg0.win 2).rect t).emb (ix2 r b))).trans (congrArg X (emb2 t r b))
theorem read3 (X : IVec S26x1024 32) (t : Fin cfg0.N) (r : Fin 26) (b : Fin 1024) :
    (((cfg0.win 3).blk t).view.read (Elt F) X : IVec S26x1024 32) (ix2 r b) = X (ix2 r b) :=
  (rfl : _ = X (((cfg0.win 3).rect t).emb (ix2 r b))).trans (congrArg X (emb3 t r b))
theorem read4 (X : IVec S4x1024 32) (t : Fin cfg0.N) (k : Fin 4) (b : Fin 1024) :
    (((cfg0.win 4).blk t).view.read (Elt F) X : IVec S4x1024 32) (ix2 k b) = X (ix2 k b) :=
  (rfl : _ = X (((cfg0.win 4).rect t).emb (ix2 k b))).trans (congrArg X (emb4 t k b))

/-- The first input's block: the logits of the point's position. -/
theorem blk0 (c : Dev nD) (t : Fin cfg0.N) (v : Fin 1000) (b : Fin 1024) :
    (iblk m c 0 t : FVec F S1x1000x1024 .f32) (ix3 (0 : Fin 1) v b) = (m ((c.tc : Thread nD τ).loc main_arg0) : FVec F S1024x26x1000 .f32) (ix3 b (row t) v) :=
  (read0 (V m c main_v0) t v b).trans ((congrFun (V_v0 m c) (ix3 (row t) v b)).trans (turned_apply _ _ _ _))

/-- The second input's block: the noise of the point's position. -/
theorem blk1 (c : Dev nD) (t : Fin cfg0.N) (v : Fin 1000) (b : Fin 1024) :
    (iblk m c 1 t : FVec F S1x1000x1024 .f32) (ix3 (0 : Fin 1) v b) = (m ((c.tc : Thread nD τ).loc main_arg1) : FVec F S1024x26x1000 .f32) (ix3 b (row t) v) :=
  (read1 (V m c main_v1) t v b).trans ((congrFun (V_v1 m c) (ix3 (row t) v b)).trans (turned_apply _ _ _ _))

/-- The third input's block: the tokens, turned. -/
theorem blk2 (c : Dev nD) (t : Fin cfg0.N) (r : Fin 26) (b : Fin 1024) :
    (iblk m c 2 t : IVec S26x1024 32) (ix2 r b) = (m ((c.tc : Thread nD τ).loc main_arg2) : IVec S1024x26 32) (ix2 b r) :=
  (read2 (F := F) (V m c main_v2) t r b).trans ((congrFun (V_v2 m c) (ix2 r b)).trans (ValueIdx.transpose_ix2_apply _ _ _ _))

/-- The fourth input's block: the mask, turned and widened. -/
theorem blk3 (c : Dev nD) (t : Fin cfg0.N) (r : Fin 26) (b : Fin 1024) :
    (iblk m c 3 t : IVec S26x1024 32) (ix2 r b) = ((m ((c.tc : Thread nD τ).loc main_arg3) : IVec S1024x26 1) (ix2 b r)).setWidth 32 :=
  (read3 (F := F) (V m c main_v5) t r b).trans ((congrFun (V_v5 m c) (ix2 r b)).trans (congrArg (BitVec.setWidth 32) (ValueIdx.transpose_ix2_apply _ _ _ _)))

/-- The fifth input's block: the positions to unmask, turned. -/
theorem blk4 (c : Dev nD) (t : Fin cfg0.N) (k : Fin 4) (b : Fin 1024) :
    (iblk m c 4 t : IVec S4x1024 32) (ix2 k b) = (m ((c.tc : Thread nD τ).loc main_arg4) : IVec S1024x4 32) (ix2 b k) :=
  (read4 (F := F) (V m c main_v4) t k b).trans ((congrFun (V_v4 m c) (ix2 k b)).trans (ValueIdx.transpose_ix2_apply _ _ _ _))

end Cert.Blocks
-- ==== Proof.FirstMax.lean ====
/-
  The first greatest entry of a row of extended reals, and two ways to find its index: the fold of the two-operand reducer that keeps
  the greater value and, on a tie, the lower index; and the least index among those whose value is the row's maximum.
-/
module

public import proofs.«01_k».proof.Defs
public import proofs.«01_k».proof.Proof.Gen.ReferenceIdeal
public import Idealize.ShloMosaic.PureOps.Reduce
public import Idealize.ShloMosaic.PureOps.Ideal.Laws
public import Idealize.ShloMosaic.Lib.WordCmp

@[expose] public section

noncomputable section

namespace Cert.FirstMax

open Idealize.ShloMosaic Idealize.ShloMosaic.WordCmp

/-- Entry `k` is the first greatest entry of `s`: none is above it, and those before it are below it. -/
def IsFirst {n : Nat} (s : Fin n → EReal) (k : Fin n) : Prop := (∀ j, s j ≤ s k) ∧ ∀ j, s j = s k → k ≤ j

/-! ## The reducer's fold -/

/-- What the fold has found after the entries in `l`: their maximum and the first index among them that attains it, or the initial
    pair when nothing above minus infinity was met. -/
def Found {ι : Type} (s : ι → EReal) (pos : ι → Nat) (l : List ι) (p : EReal × BitVec 32) : Prop :=
  (∀ i ∈ l, s i ≤ p.1) ∧
    ((p.1 = ⊥ ∧ p.2 = 0#32) ∨ ∃ i ∈ l, s i = p.1 ∧ p.2 = BitVec.ofNat 32 (pos i) ∧ ∀ j ∈ l, s j = p.1 → pos i ≤ pos j)

theorem slt_ofNat {a b : Nat} (ha : a < 2 ^ 31) (hb : b < 2 ^ 31) :
    IntOp.cmpi .slt (BitVec.ofNat 32 a) (BitVec.ofNat 32 b) = BitVec.ofBool (decide (a < b)) :=
  cmpi_slt_ofNat ha hb

/-- The reducer as a case split on the order of the two values. -/
theorem reducer_cases (a b : EReal × BitVec 32) :
    Cert.ReferenceIdeal.reducer_argmax_f32_i32 (F := Ideal) a b
      = if b.1 < a.1 then a else if a.1 = b.1 then (b.1, if IntOp.cmpi .slt a.2 b.2 = 1#1 then a.2 else b.2) else b := by
  obtain ⟨a1, a2⟩ := a
  obtain ⟨b1, b2⟩ := b
  have hne : FloatOps.cmpf (F := Ideal) (φ := .f32) .une a1 a1 = 0#1 := by simp [Ideal.cmpf_def, Ideal.cmp]
  unfold Cert.ReferenceIdeal.reducer_argmax_f32_i32
  simp only [hne]
  by_cases h : b1 < a1
  · have h1 : FloatOps.cmpf (F := Ideal) (φ := .f32) .ogt a1 b1 = 1#1 := by simp [Ideal.cmpf_def, Ideal.cmp, h]
    rw [h1, if_pos h]
    generalize IntOp.andi (FloatOps.cmpf (F := Ideal) (φ := .f32) .oeq a1 b1) (IntOp.cmpi .slt a2 b2) = d
    have hd : IntOp.ori (IntOp.ori 1#1 0#1) d = 1#1 := by revert d; decide
    rw [hd]
    simp [Scalar.select, IntOp.ori]
  · have h1 : FloatOps.cmpf (F := Ideal) (φ := .f32) .ogt a1 b1 = 0#1 := by simp [Ideal.cmpf_def, Ideal.cmp, h]
    rw [h1, if_neg h]
    by_cases e : a1 = b1
    · have h2 : FloatOps.cmpf (F := Ideal) (φ := .f32) .oeq a1 b1 = 1#1 := by simp [Ideal.cmpf_def, Ideal.cmp, e]
      rw [h2, if_pos e]
      generalize IntOp.cmpi .slt a2 b2 = c
      have hc : IntOp.ori (IntOp.ori 0#1 0#1) (IntOp.andi 1#1 c) = c := by revert c; decide
      rw [hc]
      simp [Scalar.select, IntOp.ori]
    · have h2 : FloatOps.cmpf (F := Ideal) (φ := .f32) .oeq a1 b1 = 0#1 := by simp [Ideal.cmpf_def, Ideal.cmp, e]
      rw [h2, if_neg e]
      simp [Scalar.select, IntOp.ori, IntOp.andi]

theorem found_step {ι : Type} (s : ι → EReal) (pos : ι → Nat) (hpos : ∀ i, pos i < 2 ^ 31) (l : List ι) (p : EReal × BitVec 32) (i : ι)
    (hp : Found s pos l p) :
    Found s pos (l ++ [i]) (Cert.ReferenceIdeal.reducer_argmax_f32_i32 (F := Ideal) p (s i, BitVec.ofNat 32 (pos i))) := by
  obtain ⟨v, x⟩ := p
  obtain ⟨hle, hat⟩ := hp
  simp only at hle hat
  rw [reducer_cases]
  simp only
  by_cases h : s i < v
  · rw [if_pos h]
    refine ⟨fun j hj => ?_, ?_⟩
    · rcases List.mem_append.mp hj with hj | hj
      · exact hle j hj
      · rw [List.mem_singleton.mp hj]; exact h.le
    · rcases hat with hat | ⟨k, hk, e, ex, hmin⟩
      · exact Or.inl hat
      · refine Or.inr ⟨k, List.mem_append_left _ hk, e, ex, fun j hj ej => ?_⟩
        rcases List.mem_append.mp hj with hj | hj
        · exact hmin j hj ej
        · rw [List.mem_singleton.mp hj] at ej; exact absurd ej h.ne
  · rw [if_neg h]
    by_cases e : v = s i
    · rw [if_pos e]
      refine ⟨fun j hj => ?_, ?_⟩
      · rcases List.mem_append.mp hj with hj | hj
        · exact (hle j hj).trans e.le
        · rw [List.mem_singleton.mp hj]
      · rcases hat with ⟨hv, hx⟩ | ⟨k, hk, ek, ex, hmin⟩
        · refine Or.inl ⟨e ▸ hv, ?_⟩
          simp only
          subst hx
          have := slt_ofNat (a := 0) (b := pos i) (by decide) (hpos i)
          rw [this]
          by_cases h0 : 0 < pos i
          · simp [h0]
          · have : pos i = 0 := by omega
            simp [this]
        · right
          subst ex
          simp only
          rw [slt_ofNat (hpos k) (hpos i)]
          by_cases hlt : pos k < pos i
          · refine ⟨k, List.mem_append_left _ hk, ek.trans e, by simp [hlt], fun j hj ej => ?_⟩
            rcases List.mem_append.mp hj with hj | hj
            · exact hmin j hj (ej.trans e.symm)
            · rw [List.mem_singleton.mp hj]; exact hlt.le
          · refine ⟨i, List.mem_append_right _ (List.mem_singleton.mpr rfl), rfl, by simp [hlt], fun j hj ej => ?_⟩
            rcases List.mem_append.mp hj with hj | hj
            · exact (not_lt.mp hlt).trans (hmin j hj (ej.trans e.symm))
            · rw [List.mem_singleton.mp hj]
    · rw [if_neg e]
      have hlt : v < s i := lt_of_le_of_ne (not_lt.mp h) e
      refine ⟨fun j hj => ?_, Or.inr ⟨i, List.mem_append_right _ (List.mem_singleton.mpr rfl), rfl, rfl, fun j hj ej => ?_⟩⟩
      · rcases List.mem_append.mp hj with hj | hj
        · exact (hle j hj).trans hlt.le
        · rw [List.mem_singleton.mp hj]
      · rcases List.mem_append.mp hj with hj | hj
        · exact absurd ((hle j hj).trans_lt hlt) (by rw [ej]; exact lt_irrefl _)
        · rw [List.mem_singleton.mp hj]

theorem found_foldl {ι : Type} (s : ι → EReal) (pos : ι → Nat) (hpos : ∀ i, pos i < 2 ^ 31) (l : List ι) :
    Found s pos l (l.foldl (fun p i => Cert.ReferenceIdeal.reducer_argmax_f32_i32 (F := Ideal) p (s i, BitVec.ofNat 32 (pos i))) (⊥, 0#32)) := by
  induction l using List.reverseRecOn with
  | nil => exact ⟨fun i hi => absurd hi (List.not_mem_nil), Or.inl ⟨rfl, rfl⟩⟩
  | append_singleton l i ih =>
    rw [List.foldl_append]
    exact found_step s pos hpos l _ i ih

/-- The fold over a list that lists every entry of a non-empty row ends at the index of the row's first greatest entry. -/
theorem foldl_first {ι : Type} {n : Nat} (hn : n < 2 ^ 31) (h0 : 0 < n) (t : ι → EReal) (pos : ι → Fin n) (s : Fin n → EReal)
    (l : List ι) (ht : ∀ i ∈ l, t i = s (pos i)) (hall : ∀ k, ∃ i ∈ l, pos i = k) :
    ∃ k, IsFirst s k ∧
      (l.foldl (fun p i => Cert.ReferenceIdeal.reducer_argmax_f32_i32 (F := Ideal) p (t i, BitVec.ofNat 32 (pos i).val)) (⊥, 0#32)).2
        = BitVec.ofNat 32 k.val := by
  obtain ⟨hle, hat⟩ := found_foldl t (fun i => (pos i).val) (fun i => (pos i).isLt.trans hn) l
  generalize (l.foldl (fun p i => Cert.ReferenceIdeal.reducer_argmax_f32_i32 (F := Ideal) p (t i, BitVec.ofNat 32 (pos i).val)) (⊥, 0#32)) = p at hle hat ⊢
  have hle' : ∀ k, s k ≤ p.1 := fun k => by
    obtain ⟨i, hi, rfl⟩ := hall k
    exact (ht i hi) ▸ hle i hi
  rcases hat with ⟨hv, hx⟩ | ⟨i, hi, e, ex, hmin⟩
  · refine ⟨⟨0, h0⟩, ⟨fun j => ?_, fun j _ => Nat.zero_le _⟩, hx⟩
    exact (hle' j).trans (hv ▸ bot_le)
  · refine ⟨pos i, ⟨fun j => ?_, fun j ej => ?_⟩, ex⟩
    · rw [← ht i hi, e]; exact hle' j
    · obtain ⟨i', hi', rfl⟩ := hall j
      exact hmin i' hi' (by rw [ht i' hi', ej, ← ht i hi, e])

/-! ## The least index at the maximum -/

theorem fold_max {n : Nat} (s : Fin n → EReal) (k : Fin n) (hk : IsFirst s k) :
    (Finset.univ : Finset (Fin n)).fold max ⊥ s = s k := by
  apply le_antisymm
  · exact (Finset.fold_max_le _).mpr ⟨bot_le, fun j _ => hk.1 j⟩
  · exact Finset.le_fold_max _ |>.mpr (Or.inr ⟨k, Finset.mem_univ _, le_rfl⟩)

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

theorem toInt_fold_minsi {n : Nat} (b : BitVec 32) (f : Fin n → BitVec 32) (S : Finset (Fin n)) :
    (S.fold IntOp.minsi b f).toInt = S.fold min b.toInt fun k => (f k).toInt := by
  induction S using Finset.cons_induction with
  | empty => simp
  | cons a S ha ih => rw [Finset.fold_cons, Finset.fold_cons, toInt_minsi, ih]

/-- The least of the indices whose value is the maximum, the others counting as `c`, is the index of the first greatest entry. -/
theorem fold_min {n c : Nat} (hc : n ≤ c) (hc' : c < 2 ^ 31) (s : Fin n → EReal) (k : Fin n) (hk : IsFirst s k) :
    (Finset.univ : Finset (Fin n)).fold IntOp.minsi 2147483647#32
        (fun j => if s j = s k then BitVec.ofNat 32 j.val else BitVec.ofNat 32 c)
      = BitVec.ofNat 32 k.val := by
  have hi : ∀ a : Nat, a < 2 ^ 31 → (BitVec.ofNat 32 a).toInt = (a : Int) := fun a ha => toInt_ofNat_of_lt (w := 32) ha
  have hkc : k.val < 2 ^ 31 := (k.isLt.trans_le hc).trans hc'
  apply BitVec.eq_of_toInt_eq
  rw [toInt_fold_minsi, hi _ hkc]
  apply le_antisymm
  · refine (Finset.fold_min_le _).mpr (Or.inr ⟨k, Finset.mem_univ _, ?_⟩)
    rw [if_pos rfl, hi _ hkc]
  · refine (Finset.le_fold_min _).mpr ⟨?_, fun j _ => ?_⟩
    · have : (2147483647#32 : BitVec 32).toInt = 2147483647 := by decide
      rw [this]; omega
    · by_cases e : s j = s k
      · rw [if_pos e, hi _ ((j.isLt.trans_le hc).trans hc')]
        exact_mod_cast hk.2 j e
      · rw [if_neg e, hi _ hc']
        exact_mod_cast k.isLt.le.trans hc

end Cert.FirstMax
-- ==== Proof.KernelBest.lean ====
/-
  The kernel's token row at an index: the index of the first greatest score.
-/
module

public import proofs.«01_k».proof.Proof.FirstMax
public import proofs.«01_k».proof.Proof.Gen.KernelIdeal.Skeleton
public import Idealize.ShloMosaic.Lib.Pointwise
public import Idealize.ShloMosaic.Lib.Pointwise.Reduce
public import Idealize.ShloMosaic.Lib.ValueLayout

@[expose] public section

set_option maxRecDepth 16384

noncomputable section

namespace Cert.KernelBest

open Idealize.ShloMosaic Idealize.ShloMosaic.TcCoe
open Cert.KernelIdeal Cert.KernelIdeal.Gen

theorem negInf : Ideal.ofBits .f32 0xFF800000#32 = (⊥ : EReal) := by simp [Ideal.ofBits, Ideal.ieee]

/-- A column's greatest entry. -/
theorem colMax (v4 : FVec Ideal S1000x1024 .f32) (j : S1024.Idx) (b : Fin 1024) (hj : (j 0).val = b.val) (hφ : FKind.Formats .f32)
    (hacc : 0xFF800000#32 = FKind.maximumf.neutral .f32 hφ) (k : Fin 1000)
    (hk : Cert.FirstMax.IsFirst (fun j => (v4 (ix2 j b) : EReal)) k) :
    multiReduction .maximumf [0] S1024 v4 0xFF800000#32 reduces_S1000x1024_S1024 hφ hacc j = v4 (ix2 k b) := by
  rw [multiReduction_maximumf_eq_fold, Shape.Reduces.fold_fiber_r2_a0]
  have e : (⟨(j ⟨0, (reduces_S1000x1024_S1024 : Shape.Reduces _ _ _).lt_r2_a0_0⟩).val, Shape.coordLt _ (reduces_S1000x1024_S1024 : Shape.Reduces _ _ _).size_r2_a0_0⟩ : Fin 1024) = b := Fin.ext hj
  rw [e]
  refine Eq.trans ?_ (Cert.FirstMax.fold_max (fun j => (v4 (ix2 j b) : EReal)) k hk)
  show Finset.fold max (Ideal.ofBits .f32 0xFF800000#32) _ _ = _
  rw [negInf]

/-- The least index of a column, the entries that `p` does not pick counting as `c`. -/
theorem colMin (v : IVec S1000x1024 32) (j : S1024.Idx) (b : Fin 1024) (hj : (j 0).val = b.val)
    (hacc : 2147483647#32 = IKind.minsi.neutral) :
    multiReductionI .minsi [0] S1024 v 2147483647#32 reduces_S1000x1024_S1024 hacc j
      = (Finset.univ : Finset (Fin 1000)).fold IntOp.minsi 2147483647#32 fun k => v (ix2 k b) := by
  rw [multiReductionI_eq_fold]
  have e : (⟨(j ⟨0, (reduces_S1000x1024_S1024 : Shape.Reduces _ _ _).lt_r2_a0_0⟩).val, Shape.coordLt _ (reduces_S1000x1024_S1024 : Shape.Reduces _ _ _).size_r2_a0_0⟩ : Fin 1024) = b := Fin.ext hj
  refine (Shape.Reduces.fold_fiber_r2_a0 reduces_S1000x1024_S1024 j IntOp.minsi _ v).trans ?_
  rw [e]

/-- The kernel's token row at a column is the index of the column's first greatest score. -/
theorem pay7_apply (x0 x1 : FVec Ideal S1x1000x1024 .f32) (b : Fin 1024) (s : Fin 1000 → EReal)
    (hs : ∀ v, (x0 (ix3 (0 : Fin 1) v b) : EReal) + x1 (ix3 (0 : Fin 1) v b) = s v) (k : Fin 1000) (hk : Cert.FirstMax.IsFirst s k) :
    k0_pay7 (F := Ideal) x0 x1 (ix2 (0 : Fin 1) b) = BitVec.ofNat 32 k.val := by
  have hv : ∀ v, (addf (shapeCast S1000x1024 x0 shapeCasts_S1x1000x1024_S1000x1024) (shapeCast S1000x1024 x1 shapeCasts_S1x1000x1024_S1000x1024) : FVec Ideal S1000x1024 .f32) (ix2 v b) = s v := fun v => by
    rw [← hs v]
    pointwise
  unfold k0_pay7
  generalize addf (shapeCast S1000x1024 x0 shapeCasts_S1x1000x1024_S1000x1024) (shapeCast S1000x1024 x1 shapeCasts_S1x1000x1024_S1000x1024) = v4 at hv
  have hk' : Cert.FirstMax.IsFirst (fun j => (v4 (ix2 j b) : EReal)) k := by
    have : (fun j => (v4 (ix2 j b) : EReal)) = s := funext hv
    rw [this]; exact hk
  have hM := colMax v4 (ix1 b) b rfl (.inl rfl) rfl k hk'
  generalize multiReduction .maximumf [0] S1024 v4 0xFF800000#32 reduces_S1000x1024_S1024 (.inl rfl) rfl = M at hM
  have hB : ∀ v : Fin 1000, broadcastTo S1000x1024 (shapeCast S1x1024 M shapeCasts_S1024_S1x1024) broadcasts_S1x1024_S1000x1024 (ix2 v b) = s k := fun v => by
    rw [← hv k, ← hM]
    pointwise
  generalize broadcastTo S1000x1024 (shapeCast S1x1024 M shapeCasts_S1024_S1x1024) broadcasts_S1x1024_S1000x1024 = B at hB
  have hS : ∀ v : Fin 1000, select (cmpf .oeq v4 B) (iota .tc S1000x1024 32 [0] iota_S1000x1024_d0_w32) (broadcast S1000x1024 1000#32) (ix2 v b)
      = if s v = s k then BitVec.ofNat 32 v.val else BitVec.ofNat 32 1000 := fun v => by
    have hi : iota .tc S1000x1024 32 [0] iota_S1000x1024_d0_w32 (ix2 v b) = BitVec.ofNat 32 v.val := by pointwise
    show Scalar.select (Ideal.cmp .oeq (v4 (ix2 v b)) (B (ix2 v b))) (iota .tc S1000x1024 32 [0] iota_S1000x1024_d0_w32 (ix2 v b)) 1000#32 = _
    rw [hi, hv, hB]
    by_cases e : s v = s k
    · simp [Ideal.cmp, Scalar.select, e]
    · simp [Ideal.cmp, Scalar.select, e]
  generalize select (cmpf .oeq v4 B) (iota .tc S1000x1024 32 [0] iota_S1000x1024_d0_w32) (broadcast S1000x1024 1000#32) = W at hS
  have hR := colMin W (ix1 b) b rfl rfl
  generalize multiReductionI .minsi [0] S1024 W 2147483647#32 reduces_S1000x1024_S1024 rfl = R at hR
  have hT : shapeCast S1x1024 R shapeCasts_S1024_S1x1024 (ix2 (0 : Fin 1) b) = R (ix1 b) := by pointwise
  refine hT.trans (hR.trans ?_)
  simp only [hS]
  exact Cert.FirstMax.fold_min (c := 1000) le_rfl (by decide) s k hk

end Cert.KernelBest
-- ==== Proof.RefBest.lean ====
/-
  The reference's arg-max at an index: the index of the first greatest score.
-/
module

public import proofs.«01_k».proof.Proof.FirstMax
public import proofs.«01_k».proof.Proof.RefRun
public import Idealize.ShloMosaic.Lib.Pointwise
public import Idealize.ShloMosaic.Lib.Pointwise.Reduce
public import Idealize.ShloMosaic.Lib.IdealHost

@[expose] public section

set_option maxRecDepth 16384

noncomputable section

namespace Cert.RefBest

open Idealize.ShloMosaic Idealize.ShloMosaic.TcCoe
open Cert.RefRun

/-- The two-operand fold over the last axis, from minus infinity and zero, the second operand counting along that axis. -/
theorem lastAxis {n0 n1 n2 : Nat} (h : (⟨3, ![n0, n1, n2]⟩ : Shape).ReducesTo [2] ⟨2, ![n0, n1]⟩) (hn : n2 < 2 ^ 31) (h0 : 0 < n2)
    {u : Shape} (hu : 0 < u.numel)
    (x : FVec Ideal ⟨3, ![n0, n1, n2]⟩ .f32) (y : IVec ⟨3, ![n0, n1, n2]⟩ 32) (ix : FVec Ideal u .f32) (iy : IVec u 32)
    (hy : ∀ i, y i = BitVec.ofNat 32 (i 2).val) (hix : ∀ i, ix i = (⊥ : EReal)) (hiy : ∀ i, iy i = 0#32)
    (b : Fin n0) (f : Fin n1) :
    ∃ k, Cert.FirstMax.IsFirst (fun v => (x (ix3 b f v) : EReal)) k ∧
      (Host.argReduce Cert.ReferenceIdeal.reducer_argmax_f32_i32 x y ix iy h hu (ix2 b f)).2 = BitVec.ofNat 32 k.val := by
  rw [Ideal.argReduce_eq_reduce2, Host.reduce2_eq_foldl_fiber, Host.argReduceFiber, List.foldl_map, hix, hiy]
  simp only [hy]
  refine Cert.FirstMax.foldl_first hn h0 (fun n => (x ((⟨3, ![n0, n1, n2]⟩ : Shape).rowMajor.symm n) : EReal))
    (fun n => ((⟨3, ![n0, n1, n2]⟩ : Shape).rowMajor.symm n) 2) _ _ ?_ ?_
  · intro n hmem
    have hd := (h.fiber_r3_a2 (ix2 b f) _).mp (by simpa using (List.mem_filter.mp hmem).2)
    obtain ⟨k, hk⟩ := hd
    generalize (⟨3, ![n0, n1, n2]⟩ : Shape).rowMajor.symm n = i at hk
    subst hk
    rfl
  · intro k
    refine ⟨(⟨3, ![n0, n1, n2]⟩ : Shape).rowMajor (ix3 b f k), List.mem_filter.mpr ⟨List.mem_finRange _, ?_⟩, ?_⟩
    · have : h.drop (ix3 b f k) = ix2 b f := (h.fiber_r3_a2 (ix2 b f) _).mpr ⟨k, rfl⟩
      simpa using this
    · simp

/-- A score of the reference: dividing by one changes nothing. -/
theorem score_apply (lg ns : FVec Ideal Cert.ReferenceIdeal.S1024x26x1000 .f32) (i : Cert.ReferenceIdeal.S1024x26x1000.Idx) :
    refScore (F := Ideal) lg ns i = (lg i : EReal) + ns i := by
  have h1 : Ideal.div (lg i) (Ideal.ofBits .f32 0x3F800000#32) = lg i := by
    rw [Ideal.ofBits_one_f32]
    simp [Ideal.div]
  show Ideal.div (lg i) (Ideal.ofBits .f32 0x3F800000#32) + ns i = _
  rw [h1]

theorem negInf : Ideal.ofBits .f32 0xFF800000#32 = (⊥ : EReal) := by simp [Ideal.ofBits, Ideal.ieee]

/-- The second half of a pair-valued function. -/
def pick {ι α β : Type} (g : ι → α × β) : ι → β := fun j => (g j).2

theorem argIdx_eq (x : FVec Ideal Cert.ReferenceIdeal.S1024x26x1000 .f32) (y : IVec Cert.ReferenceIdeal.S1024x26x1000 32)
    (u : FVec Ideal Cert.ReferenceIdeal.S_ .f32) (v : IVec Cert.ReferenceIdeal.S_ 32) :
    argIdx (F := Ideal) x y u v = pick (Host.argReduce Cert.ReferenceIdeal.reducer_argmax_f32_i32 x y u v
      Cert.ReferenceIdeal.Facts₀.reducesTo_S1024x26x1000_S1024x26_d2 Cert.ReferenceIdeal.Facts₀.h_S_) := rfl

theorem pick_apply {ι α β : Type} (g : ι → α × β) (P : β → Prop) (j : ι) (h : P (g j).2) : P (pick g j) := h

theorem argIdx_apply (x : FVec Ideal Cert.ReferenceIdeal.S1024x26x1000 .f32) (y : IVec Cert.ReferenceIdeal.S1024x26x1000 32)
    (u : FVec Ideal Cert.ReferenceIdeal.S_ .f32) (v : IVec Cert.ReferenceIdeal.S_ 32)
    (hy : ∀ i, y i = BitVec.ofNat 32 (i 2).val) (hu : ∀ i, u i = (⊥ : EReal)) (hv : ∀ i, v i = 0#32) (b : Fin 1024) (f : Fin 26) :
    ∃ k : Fin 1000, Cert.FirstMax.IsFirst (fun v => (x (ix3 b f v) : EReal)) k ∧
      argIdx (F := Ideal) x y u v (ix2 b f) = BitVec.ofNat 32 k.val := by
  rw [argIdx_eq]
  obtain ⟨k, hk, e⟩ := lastAxis Cert.ReferenceIdeal.Facts₀.reducesTo_S1024x26x1000_S1024x26_d2 (by decide) (by decide)
    Cert.ReferenceIdeal.Facts₀.h_S_ x y u v hy hu hv b f
  exact ⟨k, hk, pick_apply _ (fun w => w = BitVec.ofNat 32 k.val) (ix2 b f) e⟩

theorem count_apply (i : Cert.ReferenceIdeal.S1024x26x1000.Idx) :
    iotaInDim Cert.ReferenceIdeal.S1024x26x1000 32 2 i = BitVec.ofNat 32 (i 2).val := rfl

theorem isFirst_congr {n : Nat} {s s' : Fin n → EReal} (h : ∀ v, s v = s' v) {k : Fin n} (hk : Cert.FirstMax.IsFirst s k) : Cert.FirstMax.IsFirst s' k := by
  obtain rfl : s = s' := funext h
  exact hk

/-- The reference's arg-max of a row is the index of the row's first greatest score. -/
theorem arg_apply (lg ns : FVec Ideal Cert.ReferenceIdeal.S1024x26x1000 .f32) (b : Fin 1024) (f : Fin 26) :
    ∃ k : Fin 1000, Cert.FirstMax.IsFirst (fun v => (lg (ix3 b f v) : EReal) + ns (ix3 b f v)) k ∧
      refArg (F := Ideal) lg ns (ix2 b f) = BitVec.ofNat 32 k.val := by
  obtain ⟨k, hk, e⟩ := argIdx_apply (refScore (F := Ideal) lg ns) (iotaInDim Cert.ReferenceIdeal.S1024x26x1000 32 2)
    (constant Cert.ReferenceIdeal.S_ .f32 0xFF800000#32) (constantI Cert.ReferenceIdeal.S_ 32 0#32) count_apply (fun _ => negInf) (fun _ => rfl) b f
  exact ⟨k, isFirst_congr (fun v => score_apply lg ns _) hk, e⟩

end Cert.RefBest
-- ==== Proof.MaskSet.lean ====
/-
  The reference's new mask at a position: set where the old mask is set, or where the position is one of the listed columns of its row.
-/
module

public import proofs.«01_k».proof.Proof.RefRun
public import Idealize.ShloMosaic.Lib.Pointwise
public import Idealize.ShloMosaic.Lib.Routing.OpsPair

@[expose] public section

set_option maxRecDepth 16384

noncomputable section

namespace Cert.MaskSet

open Idealize.ShloMosaic Idealize.ShloMosaic.TcCoe
open Cert.ReferenceIdeal Cert.ReferenceIdeal.Gen Cert.RefRun

/-- A fold that overwrites its state by one at some of the entries ends at one exactly when it began there or met such an entry. -/
theorem foldl_set {ι : Type} (p : ι → Prop) [DecidablePred p] (u : ι → BitVec 1) (hu : ∀ n, u n = 1#1) (l : List ι) (a : BitVec 1) :
    l.foldl (fun a n => if p n then u n else a) a = 1#1 ↔ (∃ n ∈ l, p n) ∨ a = 1#1 := by
  induction l generalizing a with
  | nil => simp
  | cons n l ih =>
    rw [List.foldl_cons, ih]
    by_cases h : p n
    · simp [h, hu]
    · simp [h]

/-- A scatter of ones at index pairs. -/
theorem scatter_ones {R C A B w : Nat} (d : ScatterDims (Routing.shape2 R C) (Routing.shape3 A B 2) (Routing.shape2 A B))
    (hiw : d.insertedWindowDims = [0, 1]) (hsd : d.scatterDimsToOperandDims = [0, 1]) (hivd : d.indexVectorDim = 2)
    (x : IVec (Routing.shape2 R C) 1) (idx : IVec (Routing.shape3 A B 2) w) (u : IVec (Routing.shape2 A B) 1) (hu : ∀ n, u n = 1#1)
    (r : Fin R) (c : Fin C) :
    Host.scatter d (fun _ b => b) x idx u (ValueIdx.ix2 r c) = 1#1
      ↔ (∃ a b, (idx (ValueIdx.ix3 a b 0)).toInt = (r.val : Int) ∧ (idx (ValueIdx.ix3 a b 1)).toInt = (c.val : Int)) ∨ x (ValueIdx.ix2 r c) = 1#1 := by
  rw [Routing.scatter_at, foldl_set _ (fun n => u ((Routing.shape2 A B).rowMajor.symm n)) (fun _ => hu _)]
  refine or_congr_left ⟨?_, ?_⟩
  · rintro ⟨n, -, h⟩
    generalize (Routing.shape2 A B).rowMajor.symm n = k at h
    rw [ValueIdx.eq_ix2 k] at h
    exact ⟨_, _, (Routing.scatter_lands2 d hiw hsd hivd idx _ _ r c).mp h⟩
  · rintro ⟨a, b, h⟩
    refine ⟨(Routing.shape2 A B).rowMajor (ValueIdx.ix2 a b), List.mem_finRange _, ?_⟩
    rw [Equiv.symm_apply_apply]
    exact (Routing.scatter_lands2 d hiw hsd hivd idx _ _ r c).mpr h

theorem setAt_eq (x : IVec S1024x26 1) (i : IVec S1024x4x2 32) (u : IVec S1024x4 1) :
    setAt x i u = Host.scatter scatter_S1024x26_S1024x4x2_S1024x4_n_01_01_2 (fun _ b => b) x i u := rfl

theorem setAt_apply (x : IVec S1024x26 1) (idx : IVec S1024x4x2 32) (u : IVec S1024x4 1) (hu : ∀ n, u n = 1#1) (r : Fin 1024) (c : Fin 26) :
    setAt x idx u (ValueIdx.ix2 r c) = 1#1
      ↔ (∃ (a : Fin 1024) (b : Fin 4), (idx (ValueIdx.ix3 a b (0 : Fin 2))).toInt = (r.val : Int) ∧ (idx (ValueIdx.ix3 a b (1 : Fin 2))).toInt = (c.val : Int))
        ∨ x (ValueIdx.ix2 r c) = 1#1 := by
  rw [setAt_eq]
  exact scatter_ones scatter_S1024x26_S1024x4x2_S1024x4_n_01_01_2 rfl rfl rfl x idx u hu r c

/-! ## The index pairs -/

theorem pairUp_fst (A B : IVec S1024x4x1 32) (a : Fin 1024) (b : Fin 4) :
    pairUp A B (ix3 a b (0 : Fin 2)) = A (ix3 a b (0 : Fin 1)) := by
  unfold pairUp
  pointwise

theorem pairUp_snd (A B : IVec S1024x4x1 32) (a : Fin 1024) (b : Fin 4) :
    pairUp A B (ix3 a b (1 : Fin 2)) = B (ix3 a b (0 : Fin 1)) := by
  unfold pairUp
  pointwise

theorem rows_apply (a : Fin 1024) : refRows (ix2 a (0 : Fin 1)) = BitVec.ofNat 32 a.val := by
  unfold refRows
  pointwise
  exact Routing.wrap_of_lt _ _ (by
    rw [BitVec.toNat_ofNat]
    exact Nat.lt_of_le_of_lt (Nat.mod_le _ _) (by have := a.isLt; show a.val < 2 ^ 31; omega))

theorem cols_apply (ix : IVec S1024x4 32) (a : Fin 1024) (b : Fin 4) (h : (ix (ix2 a b)).toNat < 2 ^ 31) :
    refCols ix (ix2 a b) = ix (ix2 a b) := by
  unfold refCols
  pointwise
  exact Routing.wrap_of_lt _ _ h

theorem pairs_fst (ix : IVec S1024x4 32) (a : Fin 1024) (b : Fin 4) : refPairs ix (ix3 a b (0 : Fin 2)) = BitVec.ofNat 32 a.val := by
  unfold refPairs
  rw [pairUp_fst, ← rows_apply]
  pointwise

theorem pairs_snd (ix : IVec S1024x4 32) (a : Fin 1024) (b : Fin 4) (h : (ix (ix2 a b)).toNat < 2 ^ 31) :
    refPairs ix (ix3 a b (1 : Fin 2)) = ix (ix2 a b) := by
  unfold refPairs
  rw [pairUp_snd, ← cols_apply ix a b h]
  pointwise

/-- The new mask, with no negative column listed. -/
theorem mask_apply (mk : IVec S1024x26 1) (ix : IVec S1024x4 32) (h : ∀ a b, (ix (ix2 a b)).toNat < 2 ^ 31) (r : Fin 1024) (f : Fin 26) :
    refMask mk ix (ix2 r f) = 1#1 ↔ (∃ b : Fin 4, ix (ix2 r b) = BitVec.ofNat 32 f.val) ∨ mk (ix2 r f) = 1#1 := by
  have hi : ∀ a : Nat, a < 2 ^ 31 → (BitVec.ofNat 32 a).toInt = (a : Int) := fun a ha => WordCmp.toInt_ofNat_of_lt (w := 32) ha
  have hf : f.val < 2 ^ 31 := by have := f.isLt; omega
  unfold refMask
  refine (setAt_apply mk (refPairs ix) _ (fun n => by pointwise) r f).trans (or_congr_left ⟨?_, ?_⟩)
  · rintro ⟨a, b, h1, h2⟩
    have h1' := (congrArg BitVec.toInt (pairs_fst ix a b)).symm.trans h1
    have h2' := (congrArg BitVec.toInt (pairs_snd ix a b (h a b))).symm.trans h2
    rw [hi _ (by have := a.isLt; omega)] at h1'
    have e : a = r := Fin.ext (by omega)
    subst e
    exact ⟨b, BitVec.eq_of_toInt_eq (by rw [h2', hi _ hf])⟩
  · rintro ⟨b, e⟩
    refine ⟨r, b, (congrArg BitVec.toInt (pairs_fst ix r b)).trans (hi _ (by have := r.isLt; omega)),
      (congrArg BitVec.toInt (pairs_snd ix r b (h r b))).trans ?_⟩
    rw [e, hi _ hf]

end Cert.MaskSet
-- ==== Proof.Rows.lean ====
/-
  The kernel's rows at a position, in terms of the argument arrays.
-/
module

public import proofs.«01_k».proof.Proof.Blocks
public import proofs.«01_k».proof.Proof.KernelBest
public import proofs.«01_k».proof.Proof.RefBest
public import proofs.«01_k».proof.Proof.MaskSet

@[expose] public section

set_option maxRecDepth 16384

noncomputable section

namespace Cert.Rows

open Idealize.ShloMosaic Idealize.ShloMosaic.TcCoe
open Idealize.SL Idealize.SL.Sem
open Cert.KernelIdeal Cert.KernelIdeal.Gen Cert.KBody Cert.KRun Cert.Blocks

theorem rowOf_apply {α : Type} (X : S26x1024.Idx → α) (t : Fin cfg0.N) (b : Fin 1024) :
    X ((Rect.unit (s := S26x1024) (k0_off1 (grid0.coords t)) S1x1024.size (k0_off1_inb (grid0.coords t))).emb (ix2 (0 : Fin 1) b)) = X (ix2 (row t) b) := by
  refine congrArg X (funext fun a => Fin.ext ?_)
  rw [Rect.emb_apply]
  show k0_off1 (grid0.coords t) a + 1 * (ix2 (0 : Fin 1) b a).val = (ix2 (row t) b a).val
  rw [show k0_off1 (grid0.coords t) = ![t.val, 0] from off_eq t]
  fin_cases a
  · show t.val + 1 * 0 = t.val
    omega
  · show 0 + 1 * b.val = b.val
    omega

theorem idxRow_apply {α : Type} (X : S4x1024.Idx → α) (k : Fin 4) (h : ∀ a, (![k.val, 0] : Fin 2 → ℕ) a + S1x1024.size a ≤ S4x1024.size a) (b : Fin 1024) :
    X ((Rect.unit (s := S4x1024) ![k.val, 0] S1x1024.size h).emb (ix2 (0 : Fin 1) b)) = X (ix2 k b) := by
  refine congrArg X (funext fun a => Fin.ext ?_)
  rw [Rect.emb_apply]
  show (![k.val, 0] : Fin 2 → ℕ) a + 1 * (ix2 (0 : Fin 1) b a).val = (ix2 k b a).val
  fin_cases a
  · show k.val + 1 * 0 = k.val
    omega
  · show 0 + 1 * b.val = b.val
    omega

/-- A cast to the same shape reads the same place. -/
theorem same_apply {α : Type} (x : S1x1024.Idx → α) (y : S1x1024.Idx) : shapeCast S1x1024 x shapeCasts_S1x1024_S1x1024 y = x y :=
  shapeCast_apply x _ _ _ rfl

theorem bits_ne_zero (a : BitVec 1) : IntOp.cmpi .ne (a.setWidth 32) 0#32 = a := by revert a; decide

theorem cmpi_eq_one (x y : BitVec 32) : IntOp.cmpi .eq x y = 1#1 ↔ x = y := by
  rw [WordCmp.cmpi_eq_eq, WordCmp.ofBool_decide_eq_one_iff]

theorem ori_one (x y : BitVec 1) : IntOp.ori x y = 1#1 ↔ x = 1#1 ∨ y = 1#1 := by revert x y; decide

variable (m : (ℓ : Loc nD τ sig) → Buf (Elt Ideal) ℓ) (c : Dev nD)

/-- The old mask's row. -/
theorem maskRow_apply (t : Fin cfg0.N) (b : Fin 1024) :
    maskRow (F := Ideal) (grid0.coords t) (iblk m c 3 t) (ix2 (0 : Fin 1) b)
      = (m ((c.tc : Thread nD τ).loc main_arg3) : IVec S1024x26 1) (ix2 b (row t)) := by
  show IntOp.cmpi .ne (shapeCast S1x1024 (rowOf (F := Ideal) (e := .i32) (iblk m c 3 t) (grid0.coords t)) shapeCasts_S1x1024_S1x1024 (ix2 (0 : Fin 1) b)) 0#32 = _
  rw [same_apply]
  refine (congrArg (fun z => IntOp.cmpi .ne z 0#32) ((rowOf_apply (iblk m c 3 t : IVec S26x1024 32) t b).trans (blk3 m c t (row t) b))).trans ?_
  exact bits_ne_zero _

/-- Whether the position is listed. -/
theorem hitRow_apply (t : Fin cfg0.N) (b : Fin 1024) :
    hitRow (F := Ideal) (grid0.coords t) (iblk m c 4 t) (ix2 (0 : Fin 1) b) = 1#1
      ↔ ∃ k : Fin 4, (m ((c.tc : Thread nD τ).loc main_arg4) : IVec S1024x4 32) (ix2 b k) = BitVec.ofNat 32 (row t).val := by
  have e : ∀ (k : Fin 4) (h : ∀ a, (![k.val, 0] : Fin 2 → ℕ) a + S1x1024.size a ≤ S4x1024.size a),
      (IntOp.cmpi .eq (shapeCast S1x1024 (idxRow (F := Ideal) (iblk m c 4 t) k.val h) shapeCasts_S1x1024_S1x1024 (ix2 (0 : Fin 1) b)) (BitVec.ofNat 32 ((grid0.coords t) 0).val) = 1#1
        ↔ (m ((c.tc : Thread nD τ).loc main_arg4) : IVec S1024x4 32) (ix2 b k) = BitVec.ofNat 32 (row t).val) := fun k h => by
    rw [cmpi_eq_one, same_apply]
    have h1 : idxRow (F := Ideal) (iblk m c 4 t) k.val h (ix2 (0 : Fin 1) b) = (m ((c.tc : Thread nD τ).loc main_arg4) : IVec S1024x4 32) (ix2 b k) :=
      (idxRow_apply (iblk m c 4 t : IVec S4x1024 32) k h b).trans (blk4 m c t k b)
    have h2 : ((grid0.coords t) 0).val = (row t).val := coords_val t
    rw [h1, h2]
  have e0 := e 0 inb_S4x1024_S1x1024_0_0
  have e1 := e 1 inb_S4x1024_S1x1024_1_0
  have e2 := e 2 inb_S4x1024_S1x1024_2_0
  have e3 := e 3 inb_S4x1024_S1x1024_3_0
  refine (?_ : _ ↔ ((_ ∨ _) ∨ _) ∨ _).trans ((or_congr (or_congr (or_congr e0 e1) e2) e3).trans ?_)
  · exact (ori_one _ _).trans (or_congr_left ((ori_one _ _).trans (or_congr_left (ori_one _ _))))
  · constructor
    · rintro (((h | h) | h) | h)
      · exact ⟨0, h⟩
      · exact ⟨1, h⟩
      · exact ⟨2, h⟩
      · exact ⟨3, h⟩
    · rintro ⟨k, h⟩
      fin_cases k
      · exact .inl (.inl (.inl h))
      · exact .inl (.inl (.inr h))
      · exact .inl (.inr h)
      · exact .inr h

/-- The kernel's hit or old mask is the reference's new mask. -/
theorem hit_or_mask (hix : ∀ a b, ((m ((c.tc : Thread nD τ).loc main_arg4) : IVec S1024x4 32) (ix2 a b)).toNat < 2 ^ 31) (t : Fin cfg0.N) (b : Fin 1024) :
    IntOp.ori (hitRow (F := Ideal) (grid0.coords t) (iblk m c 4 t) (ix2 (0 : Fin 1) b)) (maskRow (F := Ideal) (grid0.coords t) (iblk m c 3 t) (ix2 (0 : Fin 1) b))
      = Cert.RefRun.refMask (m ((c.tc : Thread nD τ).loc main_arg3)) (m ((c.tc : Thread nD τ).loc main_arg4)) (ix2 b (row t)) := by
  have bit : ∀ x y : BitVec 1, (x = 1#1 ↔ y = 1#1) → x = y := by decide
  apply bit
  rw [ori_one, hitRow_apply, maskRow_apply]
  exact (Cert.MaskSet.mask_apply (m ((c.tc : Thread nD τ).loc main_arg3)) (m ((c.tc : Thread nD τ).loc main_arg4)) hix b (row t)).symm

theorem new_bits (h k : BitVec 1) : IntOp.andi h (IntOp.xori k 1#1) = IntOp.xori (IntOp.ori h k) k := by revert h k; decide

/-- The tokens the kernel leaves are the reference's. -/
theorem tok_apply (hix : ∀ a b, ((m ((c.tc : Thread nD τ).loc main_arg4) : IVec S1024x4 32) (ix2 a b)).toNat < 2 ^ 31) (t : Fin cfg0.N) (b : Fin 1024) :
    tokRow (F := Ideal) (grid0.coords t) (iblk m c 0 t) (iblk m c 1 t) (iblk m c 2 t) (iblk m c 3 t) (iblk m c 4 t) (ix2 (0 : Fin 1) b)
      = Cert.RefRun.refTok (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (ix2 b (row t)) := by
  obtain ⟨k, hk, earg⟩ := Cert.RefBest.arg_apply (m ((c.tc : Thread nD τ).loc main_arg0)) (m ((c.tc : Thread nD τ).loc main_arg1)) b (row t)
  have ebest := Cert.KernelBest.pay7_apply (iblk m c 0 t) (iblk m c 1 t) b _ (fun v => congrArg₂ (fun p q : EReal => p + q) (blk0 m c t v b) (blk1 m c t v b)) k hk
  have enew : newRow (F := Ideal) (grid0.coords t) (iblk m c 3 t) (iblk m c 4 t) (ix2 (0 : Fin 1) b)
      = IntOp.xori (Cert.RefRun.refMask (m ((c.tc : Thread nD τ).loc main_arg3)) (m ((c.tc : Thread nD τ).loc main_arg4)) (ix2 b (row t)))
          ((m ((c.tc : Thread nD τ).loc main_arg3) : IVec S1024x26 1) (ix2 b (row t))) := by
    rw [← hit_or_mask m c hix t b, ← maskRow_apply m c t b]
    exact new_bits _ _
  have eold : shapeCast S1x1024 (rowOf (F := Ideal) (e := .i32) (iblk m c 2 t) (grid0.coords t)) shapeCasts_S1x1024_S1x1024 (ix2 (0 : Fin 1) b)
      = (m ((c.tc : Thread nD τ).loc main_arg2) : IVec S1024x26 32) (ix2 b (row t)) :=
    (same_apply _ _).trans ((rowOf_apply (iblk m c 2 t : IVec S26x1024 32) t b).trans (blk2 m c t (row t) b))
  show Scalar.select (newRow (F := Ideal) (grid0.coords t) (iblk m c 3 t) (iblk m c 4 t) (ix2 (0 : Fin 1) b)) (k0_pay7 (F := Ideal) (iblk m c 0 t) (iblk m c 1 t) (ix2 (0 : Fin 1) b))
      (shapeCast S1x1024 (rowOf (F := Ideal) (e := .i32) (iblk m c 2 t) (grid0.coords t)) shapeCasts_S1x1024_S1x1024 (ix2 (0 : Fin 1) b)) = _
  rw [ebest, enew, eold, ← earg]
  rfl

/-- The mask words the kernel leaves are set where the reference's new mask is. -/
theorem chosen_apply (hix : ∀ a b, ((m ((c.tc : Thread nD τ).loc main_arg4) : IVec S1024x4 32) (ix2 a b)).toNat < 2 ^ 31) (t : Fin cfg0.N) (b : Fin 1024) :
    IntOp.cmpi .ne (chosenRow (F := Ideal) (grid0.coords t) (iblk m c 3 t) (iblk m c 4 t) (ix2 (0 : Fin 1) b)) 0#32
      = Cert.RefRun.refMask (m ((c.tc : Thread nD τ).loc main_arg3)) (m ((c.tc : Thread nD τ).loc main_arg4)) (ix2 b (row t)) := by
  rw [← hit_or_mask m c hix t b]
  exact bits_ne_zero _

/-- The float mask the kernel leaves is the reference's. -/
theorem float_apply (t : Fin cfg0.N) (b : Fin 1024) :
    floatRow (F := Ideal) (grid0.coords t) (iblk m c 3 t) (ix2 (0 : Fin 1) b)
      = Cert.RefRun.refFloat (F := Ideal) (m ((c.tc : Thread nD τ).loc main_arg3)) (ix2 b (row t)) := by
  show Scalar.select (maskRow (F := Ideal) (grid0.coords t) (iblk m c 3 t) (ix2 (0 : Fin 1) b)) (FloatOps.ofBits (F := Ideal) .f32 0x00000000#32) (FloatOps.ofBits (F := Ideal) .f32 0xFF800000#32) = _
  rw [maskRow_apply]
  rfl

/-! ## The whole arrays -/

theorem inRow_eq (f : Fin 26) (b : Fin 1024) : inRow (ix2 f b) = ix2 (0 : Fin 1) b := by
  funext a
  match a with
  | ⟨0, _⟩ => rfl
  | ⟨1, _⟩ => rfl

theorem ix2_eta {A B : Nat} (j : (⟨2, ![A, B]⟩ : Shape).Idx) : j = ix2 (j 0) (j 1) := by
  funext a
  match a with
  | ⟨0, _⟩ => rfl
  | ⟨1, _⟩ => rfl

theorem turn_apply {α : Type} (x : S26x1024.Idx → α) (b : Fin 1024) (f : Fin 26) :
    transpose S1024x26 [1, 0] x transposes_S26x1024_S1024x26_1_0 (ix2 b f) = x (ix2 f b) := ValueIdx.transpose_ix2_apply x _ b f

theorem tok_eq (hix : ∀ a b, ((m ((c.tc : Thread nD τ).loc main_arg4) : IVec S1024x4 32) (ix2 a b)).toNat < 2 ^ 31) :
    (transpose S1024x26 [1, 0] (tokAll m c) transposes_S26x1024_S1024x26_1_0 : IVec S1024x26 32)
      = Cert.RefRun.refTok (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  funext j
  obtain ⟨b, f, rfl⟩ : ∃ (b : Fin 1024) (f : Fin 26), j = ix2 b f := ⟨_, _, ix2_eta j⟩
  rw [turn_apply]
  unfold tokAll
  rw [inRow_eq]
  exact tok_apply m c hix (pointOf (ix2 f b)) b

theorem mask_eq (hix : ∀ a b, ((m ((c.tc : Thread nD τ).loc main_arg4) : IVec S1024x4 32) (ix2 a b)).toNat < 2 ^ 31) :
    (transpose S1024x26 [1, 0] (cmpi .ne (chosenAll m c) (broadcastInDim S26x1024 ![] bcast_S_S26x1024 (constantI S_ 32 0#32)) : IVec S26x1024 1) transposes_S26x1024_S1024x26_1_0 : IVec S1024x26 1)
      = Cert.RefRun.refMask (m ((c.tc : Thread nD τ).loc main_arg3)) (m ((c.tc : Thread nD τ).loc main_arg4)) := by
  funext j
  obtain ⟨b, f, rfl⟩ : ∃ (b : Fin 1024) (f : Fin 26), j = ix2 b f := ⟨_, _, ix2_eta j⟩
  rw [turn_apply]
  show IntOp.cmpi .ne (chosenAll m c (ix2 f b)) 0#32 = _
  unfold chosenAll
  rw [inRow_eq]
  exact chosen_apply m c hix (pointOf (ix2 f b)) b

theorem float_eq :
    (transpose S1024x26 [1, 0] (floatAll m c) transposes_S26x1024_S1024x26_1_0 : FVec Ideal S1024x26 .f32)
      = Cert.RefRun.refFloat (F := Ideal) (m ((c.tc : Thread nD τ).loc main_arg3)) := by
  funext j
  obtain ⟨b, f, rfl⟩ : ∃ (b : Fin 1024) (f : Fin 26), j = ix2 b f := ⟨_, _, ix2_eta j⟩
  rw [turn_apply]
  unfold floatAll
  rw [inRow_eq]
  exact float_apply m c (pointOf (ix2 f b)) b

end Cert.Rows
-- ==== Proof.NonNeg.lean ====
/-
  The precondition read: no listed position is negative.
-/
module

public import proofs.«01_k».proof.Defs
public import Idealize.ShloMosaic.PureOps.Reduce
public import Idealize.ShloMosaic.Lib.Pointwise
public import Idealize.ShloMosaic.Lib.WordCmp

@[expose] public section

noncomputable section

namespace Cert.NonNeg

open Idealize.ShloMosaic
open Cert.Pre_idx_nonneg

theorem facts : Cert.Pre_idx_nonneg.Facts where
  bcast_S_S1024x4 := by decide
  reducesTo_S1024x4_S_d0_1 := by decide
  h_S_ := by decide

/-- A conjunction of bits that is one has every bit one. -/
theorem all_of_fold {ι : Type} [DecidableEq ι] (S : Finset ι) (f : ι → BitVec 1) (b : BitVec 1) (h : S.fold IntOp.andi b f = 1#1) :
    ∀ i ∈ S, f i = 1#1 := by
  have bits : ∀ x y : BitVec 1, IntOp.andi x y = 1#1 → x = 1#1 ∧ y = 1#1 := by decide
  induction S using Finset.cons_induction with
  | empty => intro i hi; exact absurd hi (Finset.notMem_empty i)
  | cons a S ha ih =>
    rw [Finset.fold_cons] at h
    obtain ⟨h1, h2⟩ := bits _ _ h
    intro i hi
    rcases Finset.mem_cons.mp hi with rfl | hi
    · exact h1
    · exact ih h2 i hi

variable [Cert.Pre_idx_nonneg.Facts] {F : FTy → Type} [FloatOps F]

/-- Where the precondition holds every listed position is below half the words. -/
theorem read (a0 a1 : FVec F S1024x26x1000 .f32) (a2 : IVec S1024x26 32) (a3 : IVec S1024x26 1) (ix : IVec S1024x4 32)
    (h : Cert.Pre_idx_nonneg.fn (F := F) a0 a1 a2 a3 ix = fun _ => 1#1) (i : S1024x4.Idx) : (ix i).toNat < 2 ^ 31 := by
  have h0 := congrFun h (fun a => a.elim0)
  unfold Cert.Pre_idx_nonneg.fn at h0
  have h1 := (Host.reduce_eq_fold IntOp.andi _ _ Facts.reducesTo_S1024x4_S_d0_1 Facts.h_S_ (fun a => a.elim0)).symm.trans h0
  have h2 := all_of_fold _ _ _ h1 i (Finset.mem_filter.mpr ⟨Finset.mem_univ _, funext fun a => a.elim0⟩)
  have h3 : IntOp.cmpi .sge (ix i) 0#32 = 1#1 := h2
  rw [WordCmp.cmpi_sge_zero, WordCmp.ofBool_decide_eq_one_iff] at h3
  exact h3

end Cert.NonNeg
-- ==== Proof.lean ====
/-
  The certificate: the kernel's program and its idealization run and leave their arguments and counters as they found them, the
  reference's does too, and the kernel's three results are the reference's where no listed position is negative.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.KValue
public import proofs.«01_k».proof.Proof.RefRun
public import proofs.«01_k».proof.Proof.Rows
public import proofs.«01_k».proof.Proof.NonNeg
public import Idealize.ShloMosaic.Adequacy
public import Idealize.ShloMosaic.Init

@[expose] public section

noncomputable section

namespace Cert.Proof

open Idealize.ShloMosaic Idealize.ShloMosaic.TcCoe Idealize.SL.Sem

/-- The kernel's results are the reference's. -/
theorem algebraic : @Cert.algebraic_KernelIdeal_ReferenceIdeal_pre_idx_nonneg Cert.KernelIdeal.Gen.facts Cert.ReferenceIdeal.Gen.facts Cert.NonNeg.facts := by
  intro m g m' g' hpre hargs
  have hix : ∀ (c : Dev Cert.KernelIdeal.nD) (a : Fin 1024) (b : Fin 4),
      ((m ((c.tc : Thread Cert.KernelIdeal.nD Cert.KernelIdeal.τ).loc Cert.KernelIdeal.main_arg4) : IVec Cert.KernelIdeal.S1024x4 32) (ix2 a b)).toNat < 2 ^ 31 :=
    fun c a b => @Cert.NonNeg.read Cert.NonNeg.facts Ideal _ _ _ _ _ _ (hpre c) (ix2 a b)
  refine ⟨_, _, _, Cert.KRun.value m g, (θ_run _ _ _).mono (fun r h c => ?_) (Cert.RefRun.value m' g')⟩
  obtain ⟨h0, h1, h2, h3⟩ := h c
  obtain ⟨e0, e1, e2, e3, e4⟩ := hargs c
  refine ⟨h0.trans ?_, h1.trans ?_, h2.trans ?_, h3⟩
  · rw [e0, e1, e2, e3, e4]
    exact (Cert.Rows.tok_eq m c (hix c)).symm
  · rw [e3, e4]
    exact (Cert.Rows.mask_eq m c (hix c)).symm
  · rw [e3]
    exact (Cert.Rows.float_eq m c).symm

theorem claim : Cert.Claim := ⟨Cert.Kernel.Gen.facts, Cert.KernelIdeal.Gen.facts, Cert.ReferenceIdeal.Gen.facts, Cert.NonNeg.facts,
  fun m g _ => Cert.KernelRun.frame m g,
  fun m g _ => Cert.KRun.frame m g,
  fun m g _ => Cert.KRun.frame m g,
  fun m g _ => Cert.RefRun.frame m g,
  fun m g _ => Cert.RefRun.frame m g,
  trivial,
  algebraic⟩

end Cert.Proof

end
